-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384 : Shape := ⟨1, ![16384]⟩
abbrev S100000x128 : Shape := ⟨2, ![100000, 128]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100000x128 .f32) (main_arg3 : FVec F S100000x128 .f32) (main_arg4 : FVec F S256x1024 .f32) (main_arg5 : FVec F S1024 .f32) (main_arg6 : FVec F S1024x512 .f32) (main_arg7 : FVec F S512 .f32) (main_arg8 : FVec F S512x1 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S100000x128 : Shape := ⟨2, ![100000, 128]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S3x1024 : Shape := ⟨2, ![3, 1024]⟩
abbrev S2 : Shape := ⟨1, ![2]⟩
abbrev S8192x256 : Shape := ⟨2, ![8192, 256]⟩
abbrev S128 : Shape := ⟨1, ![128]⟩
abbrev S128x128 : Shape := ⟨2, ![128, 128]⟩
abbrev S8192 : Shape := ⟨1, ![8192]⟩
abbrev S2048x256 : Shape := ⟨2, ![2048, 256]⟩
abbrev S2048 : Shape := ⟨1, ![2048]⟩
abbrev S2048x1024 : Shape := ⟨2, ![2048, 1024]⟩
abbrev S1x1024 : Shape := ⟨2, ![1, 1024]⟩
abbrev S2048x512 : Shape := ⟨2, ![2048, 512]⟩
abbrev S1x512 : Shape := ⟨2, ![1, 512]⟩
abbrev S1x2048 : Shape := ⟨2, ![1, 2048]⟩
abbrev S1x1 : Shape := ⟨2, ![1, 1]⟩

abbrev nBuf : Table → Nat
  | .hbm => 42
  | .local .tc .vmem => 14
  | .local .scVector .vmem => 16
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S256x1024, .bf16⟩
  | .hbm, ⟨11, _⟩ => ⟨S1024x512, .bf16⟩
  | .hbm, ⟨12, _⟩ => ⟨S_, .f32⟩
  | .hbm, ⟨13, _⟩ => ⟨S3x1024, .f32⟩
  | .hbm, ⟨14, _⟩ => ⟨S_, .i32⟩
  | .hbm, ⟨15, _⟩ => ⟨S1, .i32⟩
  | .hbm, ⟨16, _⟩ => ⟨S3x1024, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S3x1024, .f32⟩
  | .hbm, ⟨23, _⟩ => ⟨S512, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S3x1024, .f32⟩
  | .hbm, ⟨30, _⟩ => ⟨S_, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S3x1024, .f32⟩
  | .hbm, ⟨37, _⟩ => ⟨S8192x256, .f32⟩
  | .hbm, ⟨38, _⟩ => ⟨S8192x256, .f32⟩
  | .hbm, ⟨39, _⟩ => ⟨S8192, .f32⟩
  | .hbm, ⟨40, _⟩ => ⟨S8192, .f32⟩
  | .hbm, ⟨41, _⟩ => ⟨S16384, .f32⟩
  | .local .tc .vmem, ⟨0, _⟩ => ⟨S2048x256, .f32⟩
  | .local .tc .vmem, ⟨1, _⟩ => ⟨S2048x256, .f32⟩
  | .local .tc .vmem, ⟨2, _⟩ => ⟨S256x1024, .bf16⟩
  | .local .tc .vmem, ⟨3, _⟩ => ⟨S1024x512, .bf16⟩
  | .local .tc .vmem, ⟨4, _⟩ => ⟨S3x1024, .f32⟩
  | .local .tc .vmem, ⟨5, _⟩ => ⟨S2048, .f32⟩
  | .local .tc .vmem, ⟨6, _⟩ => ⟨S2048, .f32⟩
  | .local .tc .vmem, ⟨7, _⟩ => ⟨S2048x256, .f32⟩
  | .local .tc .vmem, ⟨8, _⟩ => ⟨S2048x256, .f32⟩
  | .local .tc .vmem, ⟨9, _⟩ => ⟨S256x1024, .bf16⟩
  | .local .tc .vmem, ⟨10, _⟩ => ⟨S1024x512, .bf16⟩
  | .local .tc .vmem, ⟨11, _⟩ => ⟨S3x1024, .f32⟩
  | .local .tc .vmem, ⟨12, _⟩ => ⟨S2048, .f32⟩
  | .local .tc .vmem, ⟨13, _⟩ => ⟨S2048, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | .local .scVector .vmem, ⟨8, _⟩ => ⟨S128, .i32⟩
  | .local .scVector .vmem, ⟨9, _⟩ => ⟨S128, .i32⟩
  | .local .scVector .vmem, ⟨10, _⟩ => ⟨S128, .i32⟩
  | .local .scVector .vmem, ⟨11, _⟩ => ⟨S128, .i32⟩
  | .local .scVector .vmem, ⟨12, _⟩ => ⟨S128x128, .f32⟩
  | .local .scVector .vmem, ⟨13, _⟩ => ⟨S128x128, .f32⟩
  | .local .scVector .vmem, ⟨14, _⟩ => ⟨S128x128, .f32⟩
  | .local .scVector .vmem, ⟨15, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 38 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTables nBuf rfl bufTy 4 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_arg2_scv : Ref sig .scVector := ⟨.hbm, 2, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v19_scv : Ref sig .scVector := ⟨.hbm, 37, rfl⟩
abbrev main_v20_scv : Ref sig .scVector := ⟨.hbm, 38, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg4_0 : Ref sig .tc := ⟨.vmem, 5, rfl⟩
abbrev cc2_stg4_1 : Ref sig .tc := ⟨.vmem, 6, rfl⟩
abbrev cc3_stg0_0 : Ref sig .tc := ⟨.vmem, 7, rfl⟩
abbrev cc3_stg0_1 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg4_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_scratch0 : Ref sig .scVector := ⟨.vmem, 8, rfl⟩
abbrev cc1_scratch1 : Ref sig .scVector := ⟨.vmem, 9, rfl⟩
abbrev cc1_scratch2 : Ref sig .scVector := ⟨.vmem, 10, rfl⟩
abbrev cc1_scratch3 : Ref sig .scVector := ⟨.vmem, 11, rfl⟩
abbrev cc1_scratch4 : Ref sig .scVector := ⟨.vmem, 12, rfl⟩
abbrev cc1_scratch5 : Ref sig .scVector := ⟨.vmem, 13, rfl⟩
abbrev cc1_scratch6 : Ref sig .scVector := ⟨.vmem, 14, rfl⟩
abbrev cc1_scratch7 : Ref sig .scVector := ⟨.vmem, 15, rfl⟩
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem4_1 : DmaSem sig := 37
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  ![v3.toNat]
def k0_off2 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c0_i32 v2
  let c128_i32 : BitVec 32 := 128#32
  let v6 : BitVec 32 := Scalar.addi v3 c128_i32
  ![v6.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_11 : BitVec 32 := 0#32
  ![v2.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_15 : BitVec 32 := 128#32
  let v30 : BitVec 32 := Scalar.addi v2 c128_i32_15
  let c0_i32_16 : BitVec 32 := 0#32
  ![v30.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_20 : BitVec 32 := 128#32
  ![v2.toNat, 128]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_24 : BitVec 32 := 128#32
  let v37 : BitVec 32 := Scalar.addi v2 c128_i32_24
  let c128_i32_25 : BitVec 32 := 128#32
  ![v37.toNat, 128]
abbrev grid1 : Pipeline.Grid := ⟨2, ![2, 16], ![false, false]⟩

def k1_off1 (i : grid1.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  ![v3.toNat]
def k1_off2 (i : grid1.Coords) : Fin 1 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi c8192_i32 v2
  let c128_i32 : BitVec 32 := 128#32
  let v6 : BitVec 32 := Scalar.addi v3 c128_i32
  ![v6.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_10 : BitVec 32 := 0#32
  ![v2.toNat, 0]
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_14 : BitVec 32 := 128#32
  let v30 : BitVec 32 := Scalar.addi v2 c128_i32_14
  let c0_i32_15 : BitVec 32 := 0#32
  ![v30.toNat, 0]
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_19 : BitVec 32 := 128#32
  ![v2.toNat, 128]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_23 : BitVec 32 := 128#32
  let v37 : BitVec 32 := Scalar.addi v2 c128_i32_23
  let c128_i32_24 : BitVec 32 := 128#32
  ![v37.toNat, 128]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  ![arg0.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S100000x128 : Shape := ⟨2, ![100000, 128]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x512, .f32⟩
  | .hbm, ⟨65, _⟩ => ⟨S1x512, .f32⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S16384x1, .f32⟩
  | .hbm, ⟨72, _⟩ => ⟨S1x1, .f32⟩
  | .hbm, ⟨73, _⟩ => ⟨S16384x1, .f32⟩
  | .hbm, ⟨74, _⟩ => ⟨S16384x1, .f32⟩
  | .hbm, ⟨75, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_call2_cst : Ref sig .tc := ⟨.hbm, 61, rfl⟩
abbrev main_call2_v0 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_call3_cst : Ref sig .tc := ⟨.hbm, 68, rfl⟩
abbrev main_call3_v0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩

abbrev nD : Nat := 1
abbrev τ : Topo := Topo.v7x

variable {F : FTy → Type} [FloatOps F]
-- ==== Proof.Base.lean ====
/-
  The program as the launch theorem sees it: the label signature with the two pipelines, the SparseCore configuration,
  the resource algebra of the proof (the handshakes' rounds, the pipelines' rounds, the transfers' counters), and the
  places of the arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels with the two pipelined regions' own. -/
abbrev ΛP : Labels := Pipeline.Sig Λ₀ (Fin 2) fun p => (pcfgs (F := F) p).Adm
/-- The two SparseCore calls. -/
abbrev K : SparseCore.Cfg τ sig (ΛP (F := F)) 2 := sc (F := F)
/-- The body table with the pipelines' loops. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the handshake semaphores and of the buffers the SparseCores own. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds and the transfers' counters. -/
abbrev UH : Type := URounds (GSem nD τ sig) ℕ
abbrev UP : Type := URounds (GSem nD τ sig) Unit
abbrev UU : Type := UH × (UP × Counters)

/-- The logic's resources. -/
abbrev MM (F : FTy → Type) : Type := MT nD τ sig (HIx 2) (Elt F) ℕ UU ℕ

end Cert.Proof

end
-- ==== Proof.Block.lean ====
/-
  What the TensorCore kernel makes of one block of gathered rows: the three-layer perceptron's value `blockOf` of the
  block, the two weight matrices and the packed array of biases and last weights; and the kernel body's run, which
  leaves that value in its result buffer and every other buffer as it was. The two TensorCore kernels have one text.
-/
module

public import proofs.«01_k».proof.Proof.Base
public import proofs.«01_k».proof.Proof.Gen.KernelIdeal.Launch
public import proofs.«01_k».proof.Proof.Gen.KernelIdeal.Skeleton
public import Idealize.ShloMosaic.Lib.Tactic
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

/-- The packed array's first row: the first layer's bias. -/
def pkB1 (pk : S3x1024.Idx → Elt F .f32) : S1x1024.Idx → Elt F .f32 := VecWindow.window pk ![0, 0] S1x1024.size inb_S3x1024_S1x1024_0_0
/-- The left half of the packed array's second row: the second layer's bias. -/
def pkB2 (pk : S3x1024.Idx → Elt F .f32) : S1x512.Idx → Elt F .f32 := VecWindow.window pk ![1, 0] S1x512.size inb_S3x1024_S1x512_1_0
/-- The right half of the packed array's second row: the last layer's weights. -/
def pkW3 (pk : S3x1024.Idx → Elt F .f32) : S1x512.Idx → Elt F .f32 := VecWindow.window pk ![1, 512] S1x512.size inb_S3x1024_S1x512_1_512
/-- The packed array's third row's first element: the last layer's bias. -/
def pkB3 (pk : S3x1024.Idx → Elt F .f32) : S1x1.Idx → Elt F .f32 := VecWindow.window pk ![2, 0] S1x1.size inb_S3x1024_S1x1_2_0

/-- What the kernel computes of a block `x` of 2048 gathered rows, the weight matrices `w1` and `w2` and the packed
    array `pk`. -/
def blockOf (x : S2048x256.Idx → Elt F .f32) (w1 : S256x1024.Idx → Elt F .bf16) (w2 : S1024x512.Idx → Elt F .bf16) (pk : S3x1024.Idx → Elt F .f32) :
    S2048.Idx → Elt F .f32 :=
  k2_pay1 x w1 (pkB1 pk) w2 (pkB2 pk) (pkW3 pk) (pkB3 pk)

/-- The two TensorCore kernels have the same text. -/
theorem cc3_body_eq : @cc3_body F _ = @cc2_body F _ := rfl

/-- The kernel's body, run from its five buffers held whole, hands back the four it reads as they were and the result
    buffer reading `blockOf` of what they read. -/
theorem body_wp (d : Dev nD) (i : grid2.Coords) (M1 : Memref sig .tc .vmem S2048x256 .f32) (h1 : M1.IsWhole) (M2 : Memref sig .tc .vmem S256x1024 .bf16) (h2 : M2.IsWhole)
    (M3 : Memref sig .tc .vmem S1024x512 .bf16) (h3 : M3.IsWhole) (M4 : Memref sig .tc .vmem S3x1024 .f32) (h4 : M4.IsWhole) (M5 : Memref sig .tc .vmem S2048 .f32) (h5 : M5.IsWhole)
    (f1 : Buf (Elt F) (M1.view.loc (d.tc : Thread nD τ))) (f2 : Buf (Elt F) (M2.view.loc (d.tc : Thread nD τ))) (f3 : Buf (Elt F) (M3.view.loc (d.tc : Thread nD τ)))
    (f4 : Buf (Elt F) (M4.view.loc (d.tc : Thread nD τ))) (f5 : Buf (Elt F) (M5.view.loc (d.tc : Thread nD τ))) (Q : PUnit → sProp 𝕄) :
    (iprop((M1.view.loc (d.tc : Thread nD τ) ↦{fullShare} f1) ∗ (M2.view.loc (d.tc : Thread nD τ) ↦{fullShare} f2) ∗ (M3.view.loc (d.tc : Thread nD τ) ↦{fullShare} f3)
        ∗ (M4.view.loc (d.tc : Thread nD τ) ↦{fullShare} f4) ∗ (M5.view.loc (d.tc : Thread nD τ) ↦{fullShare} f5)
        ∗ (∀ g5 : Buf (Elt F) (M5.view.loc (d.tc : Thread nD τ)),
            iprop(⌜M5.view.read (Elt F) g5 = blockOf (M1.view.read (Elt F) f1) (M2.view.read (Elt F) f2) (M3.view.read (Elt F) f3) (M4.view.read (Elt F) f4)⌝
              ∗ (M1.view.loc (d.tc : Thread nD τ) ↦{fullShare} f1) ∗ (M2.view.loc (d.tc : Thread nD τ) ↦{fullShare} f2) ∗ (M3.view.loc (d.tc : Thread nD τ) ↦{fullShare} f3)
              ∗ (M4.view.loc (d.tc : Thread nD τ) ↦{fullShare} f4) ∗ (M5.view.loc (d.tc : Thread nD τ) ↦{fullShare} g5)) -∗ Q ⟨⟩)) : sProp 𝕄)
      ⊢ wp frame (wpE (defs₀ (F := F)) 𝒱₀ (d.tc : Thread nD τ) none) Set.univ (cc2_body i M1 h1 M2 h2 M3 h3 M4 h4 M5 h5) Q := by
  rw [cc2_body_eq_skeleton]
  unfold cc2_body_skel
  iintro ⟨H1, H2, H3, H4, H5, HQ⟩
  sl_exec
  sl_step
  ispecialize HQ $$ %(_)
  iapply HQ
  isplitr
  swap
  · isplitl [H1]; · iexact H1
    isplitl [H2]; · iexact H2
    isplitl [H3]; · iexact H3
    isplitl [H4]; · iexact H4
    iexact H5
  ipureintro
  refine (View.read_writes_full M5.view f5 _ _ _).trans ?_
  rw [View.readAt_full M1.view f1, View.readAt_full M2.view f2, View.readAt_full M3.view f3]
  rfl

end Cert.Proof
end
-- ==== Proof.Region.lean ====
/-
  The two TensorCore regions. Each reads the gathered rows a block at a time, keeps the weights and the packed array in
  place, and writes one block of results per point. Proof data, body obligations, the regions over the buffers the
  TensorCore's thread holds, and what each result array holds at the end.
-/
module

public import proofs.«01_k».proof.Proof.Block
public import proofs.«01_k».proof.Proof.Gen.KernelIdeal.Points
public import Idealize.ShloMosaic.Lib.Pipeline.RegionArraysS
public import Idealize.ShloMosaic.Lib.Pipeline.FrameBody
public import Idealize.ShloMosaic.Lib.Pipeline.ValueKit.Geometry

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window BodyObligation arrRef)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

/-- The contents of a whole buffer from what reads through its view. -/
theorem owns_of_whole {sp : Space} {s : Shape} {e : EltTy} (d : Dev nD) (M : Memref sig .tc sp s e) (h : M.IsWhole) (x : s.Idx → Elt F e) :
    (owns (d.tc : Thread nD τ) M fullShare x : sProp 𝕄) = iprop(∃ f, ⌜M.view.read (Elt F) f = x⌝ ∗ (M.view.loc (d.tc : Thread nD τ) ↦{fullShare} f)) := by
  unfold owns
  rw [h.set_eq_univ]

/-- A point of either region: from the staging buffers as the body finds them, whatever rides along, to the four it
    reads as they were and the result's at `blockOf` of them. -/
theorem point_wp {T1 T2 T3 T4 T5 : Type} (d : Dev nD) (i : grid2.Coords) (M1 : Memref sig .tc .vmem S2048x256 .f32) (h1 : M1.IsWhole) (M2 : Memref sig .tc .vmem S256x1024 .bf16) (h2 : M2.IsWhole)
    (M3 : Memref sig .tc .vmem S1024x512 .bf16) (h3 : M3.IsWhole) (M4 : Memref sig .tc .vmem S3x1024 .f32) (h4 : M4.IsWhole) (M5 : Memref sig .tc .vmem S2048 .f32) (h5 : M5.IsWhole)
    (x1 : S2048x256.Idx → Elt F .f32) (x2 : S256x1024.Idx → Elt F .bf16) (x3 : S1024x512.Idx → Elt F .bf16) (x4 : S3x1024.Idx → Elt F .f32)
    (b1 : T1 → S2048x256.Idx → Elt F .f32) (b2 : T2 → S256x1024.Idx → Elt F .bf16) (b3 : T3 → S1024x512.Idx → Elt F .bf16) (b4 : T4 → S3x1024.Idx → Elt F .f32) (b5 : T5 → S2048.Idx → Elt F .f32)
    (e1 : ∀ t, b1 t = x1) (e2 : ∀ t, b2 t = x2) (e3 : ∀ t, b3 t = x3) (e4 : ∀ t, b4 t = x4) (A B : sProp 𝕄) :
    (iprop(A ∗ B ∗ (∃ t, owns (d.tc : Thread nD τ) M1 fullShare (b1 t)) ∗ (∃ t, owns (d.tc : Thread nD τ) M2 fullShare (b2 t)) ∗ (∃ t, owns (d.tc : Thread nD τ) M3 fullShare (b3 t))
        ∗ (∃ t, owns (d.tc : Thread nD τ) M4 fullShare (b4 t)) ∗ (∃ t, owns (d.tc : Thread nD τ) M5 fullShare (b5 t))) : sProp 𝕄)
      ⊢ wp frame (wpE (defs₀ (F := F)) 𝒱₀ (d.tc : Thread nD τ) none) Set.univ (cc2_body i M1 h1 M2 h2 M3 h3 M4 h4 M5 h5)
          fun _ => (iprop(A ∗ B ∗ owns (d.tc : Thread nD τ) M1 fullShare x1 ∗ owns (d.tc : Thread nD τ) M2 fullShare x2 ∗ owns (d.tc : Thread nD τ) M3 fullShare x3
            ∗ owns (d.tc : Thread nD τ) M4 fullShare x4 ∗ owns (d.tc : Thread nD τ) M5 fullShare (blockOf x1 x2 x3 x4)) : sProp 𝕄) := by
  simp only [owns_of_whole d M1 h1, owns_of_whole d M2 h2, owns_of_whole d M3 h3, owns_of_whole d M4 h4, owns_of_whole d M5 h5]
  iintro ⟨HA, HB, ⟨%t1, %f1, %hf1, H1⟩, ⟨%t2, %f2, %hf2, H2⟩, ⟨%t3, %f3, %hf3, H3⟩, ⟨%t4, %f4, %hf4, H4⟩, ⟨%t5, %f5, -, H5⟩⟩
  iapply (body_wp d i M1 h1 M2 h2 M3 h3 M4 h4 M5 h5 f1 f2 f3 f4 f5 _)
  isplitl [H1]; · iexact H1
  isplitl [H2]; · iexact H2
  isplitl [H3]; · iexact H3
  isplitl [H4]; · iexact H4
  isplitl [H5]; · iexact H5
  iintro %g5 ⟨%hg, H1, H2, H3, H4, H5⟩
  isplitl [HA]; · iexact HA
  isplitl [HB]; · iexact HB
  isplitl [H1]; · iexists _; isplitr; swap; (· iexact H1); ipureintro; exact hf1.trans (e1 t1)
  isplitl [H2]; · iexists _; isplitr; swap; (· iexact H2); ipureintro; exact hf2.trans (e2 t2)
  isplitl [H3]; · iexists _; isplitr; swap; (· iexact H3); ipureintro; exact hf3.trans (e3 t3)
  isplitl [H4]; · iexists _; isplitr; swap; (· iexact H4); ipureintro; exact hf4.trans (e4 t4)
  iexists _; isplitr; swap; (· iexact H5)
  ipureintro
  rw [hg, hf1, hf2, hf3, hf4, e1, e2, e3, e4]

/-! ## Proof data, from the contents the TensorCore's buffers have at the entry -/

variable (V : Dev nD → Valuation τ sig (Elt F))

/-- The block of a window's array at a point, at the entry. -/
abbrev blk2 (c : Dev nD) (w : Fin 5) (t : Fin cfg2.N) := ((cfg2.win w).blk t).view.read (Elt F) (V c (Proc.devRef .tc (arrRef spec2 w)))
/-- The same for the other region. -/
abbrev blk3 (c : Dev nD) (w : Fin 5) (t : Fin cfg3.N) := ((cfg3.win w).blk t).view.read (Elt F) (V c (Proc.devRef .tc (arrRef spec3 w)))

/-- The first region's proof data. -/
def dat2 (c : Dev nD) : Dat τ (Elt F) (HIx 2) ℕ UU ℕ cfg2 c where
  A w := V c (Proc.devRef .tc (arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blockOf (blk2 V c 0 t) (blk2 V c 1 t) (blk2 V c 2 t) (blk2 V c 3 t)
  Φ _ := Pipeline.scopedRest spec2 c
  q _ := fullShare
  owed _ := 0

/-- The second region's proof data. -/
def dat3 (c : Dev nD) : Dat τ (Elt F) (HIx 2) ℕ UU ℕ cfg3 c where
  A w := V c (Proc.devRef .tc (arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blockOf (blk3 V c 0 t) (blk3 V c 1 t) (blk3 V c 2 t) (blk3 V c 3 t)
  Φ _ := Pipeline.scopedRest spec3 c
  q _ := fullShare
  owed _ := 0

/-- Before the body the four input windows of the first region hold their blocks. -/
theorem before2 (c : Dev nD) (t : Fin cfg2.N) :
    (∀ x, (dat2 V c).before 0 t x = blk2 V c 0 t) ∧ (∀ x, (dat2 V c).before 1 t x = blk2 V c 1 t)
      ∧ (∀ x, (dat2 V c).before 2 t x = blk2 V c 2 t) ∧ (∀ x, (dat2 V c).before 3 t x = blk2 V c 3 t) :=
  ⟨fun x => (dat2 V c).before_in_eq_fetched 0 rfl (fun _ => rfl) (fun _ _ _ => rfl) (fun t => show blk2 V c 0 t = _ from rfl) t x,
    fun x => (dat2 V c).before_in_eq_fetched 1 rfl (fun _ => rfl) (fun _ _ _ => rfl) (fun t => show blk2 V c 1 t = _ from rfl) t x,
    fun x => (dat2 V c).before_in_eq_fetched 2 rfl (fun _ => rfl) (fun _ _ _ => rfl) (fun t => show blk2 V c 2 t = _ from rfl) t x,
    fun x => (dat2 V c).before_in_eq_fetched 3 rfl (fun _ => rfl) (fun _ _ _ => rfl) (fun t => show blk2 V c 3 t = _ from rfl) t x⟩

/-- The same for the second region. -/
theorem before3 (c : Dev nD) (t : Fin cfg3.N) :
    (∀ x, (dat3 V c).before 0 t x = blk3 V c 0 t) ∧ (∀ x, (dat3 V c).before 1 t x = blk3 V c 1 t)
      ∧ (∀ x, (dat3 V c).before 2 t x = blk3 V c 2 t) ∧ (∀ x, (dat3 V c).before 3 t x = blk3 V c 3 t) :=
  ⟨fun x => (dat3 V c).before_in_eq_fetched 0 rfl (fun _ => rfl) (fun _ _ _ => rfl) (fun t => show blk3 V c 0 t = _ from rfl) t x,
    fun x => (dat3 V c).before_in_eq_fetched 1 rfl (fun _ => rfl) (fun _ _ _ => rfl) (fun t => show blk3 V c 1 t = _ from rfl) t x,
    fun x => (dat3 V c).before_in_eq_fetched 2 rfl (fun _ => rfl) (fun _ _ _ => rfl) (fun t => show blk3 V c 2 t = _ from rfl) t x,
    fun x => (dat3 V c).before_in_eq_fetched 3 rfl (fun _ => rfl) (fun _ _ _ => rfl) (fun t => show blk3 V c 3 t = _ from rfl) t x⟩

/-- A point of the first region. -/
theorem body_obligation2 (c : Dev nD) : BodyObligation (dat2 V c) (defs₀ (F := F)) 𝒱₀ (none : HIx 2) Set.univ := fun t => by
  rw [bigSep_W2, bigSep_W2]
  exact point_wp c (grid2.coords t) ((cfg2.win 0).stage (cfg2.slots t 0)) (stage_whole2 0 _) ((cfg2.win 1).stage (cfg2.slots t 1)) (stage_whole2 1 _)
    ((cfg2.win 2).stage (cfg2.slots t 2)) (stage_whole2 2 _) ((cfg2.win 3).stage (cfg2.slots t 3)) (stage_whole2 3 _) ((cfg2.win 4).stage (cfg2.slots t 4)) (stage_whole2 4 _)
    (blk2 V c 0 t) (blk2 V c 1 t) (blk2 V c 2 t) (blk2 V c 3 t)
    ((dat2 V c).before 0 t) ((dat2 V c).before 1 t) ((dat2 V c).before 2 t) ((dat2 V c).before 3 t) ((dat2 V c).before 4 t)
    (before2 V c t).1 (before2 V c t).2.1 (before2 V c t).2.2.1 (before2 V c t).2.2.2 ((dat2 V c).Φ t.castSucc) ((dat2 V c).owesAt none t.castSucc)

/-- A point of the second region. -/
theorem body_obligation3 (c : Dev nD) : BodyObligation (dat3 V c) (defs₀ (F := F)) 𝒱₀ (none : HIx 2) Set.univ := fun t => by
  rw [bigSep_W3, bigSep_W3]
  exact point_wp c (grid3.coords t) ((cfg3.win 0).stage (cfg3.slots t 0)) (stage_whole3 0 _) ((cfg3.win 1).stage (cfg3.slots t 1)) (stage_whole3 1 _)
    ((cfg3.win 2).stage (cfg3.slots t 2)) (stage_whole3 2 _) ((cfg3.win 3).stage (cfg3.slots t 3)) (stage_whole3 3 _) ((cfg3.win 4).stage (cfg3.slots t 4)) (stage_whole3 4 _)
    (blk3 V c 0 t) (blk3 V c 1 t) (blk3 V c 2 t) (blk3 V c 3 t)
    ((dat3 V c).before 0 t) ((dat3 V c).before 1 t) ((dat3 V c).before 2 t) ((dat3 V c).before 3 t) ((dat3 V c).before 4 t)
    (before3 V c t).1 (before3 V c t).2.1 (before3 V c t).2.2.1 (before3 V c t).2.2.2 ((dat3 V c).Φ t.castSucc) ((dat3 V c).owesAt none t.castSucc)

/-! ## The regions -/

/-- The pipelines take no tables. -/
abbrev adm : (p : Fin 2) → (pcfgs (F := F) p).Adm := fun p => (cfgs p).toPCfg_adm

/-- The proof data of both pipelines at one entry valuation. -/
def pdats : (p : Fin 2) → (c : Dev nD) → Dat τ (Elt F) (HIx 2) ℕ UU ℕ (Pipeline.pin (pcfgs (F := F)) adm p) c
  | ⟨0, _⟩ => dat2 V
  | ⟨1, _⟩ => dat3 V

/-- The body obligation at either pipeline. -/
theorem hbody (p : Fin 2) (c : Dev nD) : Pipeline.BodyObligationLoose (pdats V p c) (defs₀ (F := F)) 𝒱₀ (none : HIx 2) Set.univ :=
  match p with
  | ⟨0, _⟩ => (body_obligation2 V c).loose
  | ⟨1, _⟩ => (body_obligation3 V c).loose

/-- How either pipeline is laid out. -/
theorem launch (p : Fin 2) : Pipeline.PLaunchFacts (nD := nD) (τ := τ) (pcfgs (F := F)) p :=
  match p with
  | ⟨0, _⟩ => launch2.toP
  | ⟨1, _⟩ => launch3.toP

/-- What rides in the first body's invariant: the scoped buffers its pipeline does not stage. -/
theorem phi_eq2 (c : Dev nD) (t) : (dat2 V c).Φ t = Pipeline.scopedRest (cfg2).spec c := rfl

/-- The same for the second. -/
theorem phi_eq3 (c : Dev nD) (t) : (dat3 V c).Φ t = Pipeline.scopedRest (cfg3).spec c := rfl

/-- What rides in either body's invariant. -/
theorem phi_eq (p : Fin 2) (c : Dev nD) (t) : (pdats V p c).Φ t = Pipeline.scopedRest (Pipeline.pin (pcfgs (F := F)) adm p).spec c := by
  match p with
  | ⟨0, _⟩ => exact phi_eq2 V c t
  | ⟨1, _⟩ => exact phi_eq3 V c t

/-- Neither body owes anything. -/
theorem owed_eq (p : Fin 2) (c : Dev nD) (t) : (pdats V p c).owed t = 0 :=
  match p with
  | ⟨0, _⟩ => rfl
  | ⟨1, _⟩ => rfl

/-- Neither bounds what its waits record. -/
theorem recorded_eq (p : Fin 2) (c : Dev nD) (t) : (pdats V p c).recorded t = Set.univ :=
  match p with
  | ⟨0, _⟩ => rfl
  | ⟨1, _⟩ => rfl

/-- Both hold their arrays in full. -/
theorem q_eq (p : Fin 2) (c : Dev nD) (w) : (pdats V p c).q w = fullShare :=
  match p with
  | ⟨0, _⟩ => rfl
  | ⟨1, _⟩ => rfl

/-- Both start from the entry valuation. -/
theorem A_eq (p : Fin 2) (c : Dev nD) (w) : (pdats V p c).A w = V c (Proc.devRef .tc (arrRef (Pipeline.pin (pcfgs (F := F)) adm p).spec w)) :=
  match p with
  | ⟨0, _⟩ => rfl
  | ⟨1, _⟩ => rfl

/-- Neither prefetches a table. -/
theorem pre_eq (p : Fin 2) : (pcfgs (F := F) p).pre.K = 0 :=
  match p with
  | ⟨0, _⟩ => rfl
  | ⟨1, _⟩ => rfl

/-- Either region, over any set of held buffers. -/
def reg (p : Fin 2) (S : Finset (DevRef τ sig)) : Pipeline.RegionSeg (pcfgs (F := F)) adm (pdats V) (none : HIx 2) defs₀ 𝒱₀ (K (F := F)).L (K (F := F)).lev p :=
  Pipeline.RegionSeg.ofHeldIn pcfgs adm (pdats V) none defs₀ 𝒱₀ (K (F := F)).L (K (F := F)).lev p (fun _ => 0) S (fun _ => BI.emp) (fun _ => BI.emp) (launch p)
    (pre_eq p) (hbody V p) (owed_eq V p) (fun c => recorded_eq V p c 0) (fun c => (pdats V p c).share_full (q_eq V p c))
    (fun c => by rw [phi_eq]; exact sep_elim_left)
    (fun c => by rw [phi_eq]; iintro H; isplitl; · iexact H
                 iempintro)
    (fun _ => 0) ⟨fun _ _ _ => Finset.mem_univ _, fun _ _ _ => le_rfl, fun _ _ _ h => absurd h (Nat.lt_irrefl 0)⟩
    (fun _ => BI.emp) V
    (A_eq V p)

end Cert.Proof
end
-- ==== Proof.Final.lean ====
/-
  What the two TensorCore regions leave in their result arrays: element `j` is the perceptron's value, at row `j` of
  the gathered rows, computed with the rows of its block of 2048.
-/
module

public import proofs.«01_k».proof.Proof.Region

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (Dat Cfg Window arrRef)
open Idealize.SL Idealize.SL.RA Idealize.SL.BI
open scoped Idealize.SL.BI

variable {F : FTy → Type} [FloatOps F]

/-- Block `b` of 2048 gathered rows. -/
def rowBlk {α : Type} (g : S8192x256.Idx → α) (b : ℕ) : S2048x256.Idx → α :=
  fun y => g (fun | 0 => ⟨(2048 * b + (y 0).val) % 8192, Nat.mod_lt _ (by decide)⟩ | 1 => y 1)

/-- Row `r`'s place in its block. -/
def inBlk (r : ℕ) : S2048.Idx := fun | 0 => ⟨r % 2048, Nat.mod_lt _ (by decide)⟩

/-- The kernel's results for 8192 gathered rows. -/
def mlp (g : S8192x256.Idx → Elt F .f32) (w1 : S256x1024.Idx → Elt F .bf16) (w2 : S1024x512.Idx → Elt F .bf16) (pk : S3x1024.Idx → Elt F .f32) : S8192.Idx → Elt F .f32 :=
  fun j => blockOf (rowBlk g ((j 0).val / 2048)) w1 w2 pk (inBlk (j 0).val)

/-- A block's result at a row is `mlp` there. -/
theorem mlp_eq (g : S8192x256.Idx → Elt F .f32) (w1 : S256x1024.Idx → Elt F .bf16) (w2 : S1024x512.Idx → Elt F .bf16) (pk : S3x1024.Idx → Elt F .f32)
    (b : ℕ) (x : S2048x256.Idx → Elt F .f32) (w1' : S256x1024.Idx → Elt F .bf16) (w2' : S1024x512.Idx → Elt F .bf16) (pk' : S3x1024.Idx → Elt F .f32)
    (hx : x = rowBlk g b) (h1 : w1' = w1) (h2 : w2' = w2) (hp : pk' = pk) (y : S2048.Idx) (j : S8192.Idx) (hj : (j 0).val = b * 2048 + (y 0).val) :
    blockOf x w1' w2' pk' y = mlp g w1 w2 pk j := by
  have hy : (y 0).val < 2048 := (y 0).isLt
  unfold mlp
  rw [hx, h1, h2, hp, show (j 0).val / 2048 = b by omega]
  congr 1
  funext a; match a with
  | 0 => apply Fin.ext; show (y 0).val = (j 0).val % 2048; omega

/-- A block of the rows, from where its elements lie in the array. -/
theorem rowBlk_eq {α : Type} (g : S8192x256.Idx → α) (b : ℕ) (x : S2048x256.Idx → α) (e : S2048x256.Idx → S8192x256.Idx)
    (hx : ∀ y, x y = g (e y)) (h0 : ∀ y, (e y 0).val = b * 2048 + (y 0).val) (h1 : ∀ y, (e y 1).val = (y 1).val) : x = rowBlk g b := by
  funext y
  rw [hx]; unfold rowBlk; congr 1
  have := h0 y
  have i0 : (e y 0).val < 8192 := (e y 0).isLt
  funext a; match a with
  | 0 => apply Fin.ext; show (e y 0).val = (2048 * b + (y 0).val) % 8192; omega
  | 1 => exact Fin.ext (h1 y)

variable (V : Dev nD → Valuation τ sig (Elt F))

/-- Where the first region's windows sit at each point. -/
theorem ix2_0 : ∀ t : Fin cfg2.N, win2_0.index t = ![t.val, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![0, 0] := (by decide +kernel : ∀ t : Fin grid2.N, _)
theorem ix2_3 : ∀ t : Fin cfg2.N, win2_3.index t = ![0, 0] := (by decide +kernel : ∀ t : Fin grid2.N, _)
theorem ix2_4 : ∀ t : Fin cfg2.N, win2_4.index t = ![t.val] := (by decide +kernel : ∀ t : Fin grid2.N, _)

/-- The second region's sit at the same places. -/
theorem ix3_0 : ∀ t : Fin cfg3.N, win3_0.index t = ![t.val, 0] := (by decide +kernel : ∀ t : Fin grid3.N, _)
theorem ix3_1 : ∀ t : Fin cfg3.N, win3_1.index t = ![0, 0] := (by decide +kernel : ∀ t : Fin grid3.N, _)
theorem ix3_2 : ∀ t : Fin cfg3.N, win3_2.index t = ![0, 0] := (by decide +kernel : ∀ t : Fin grid3.N, _)
theorem ix3_3 : ∀ t : Fin cfg3.N, win3_3.index t = ![0, 0] := (by decide +kernel : ∀ t : Fin grid3.N, _)
theorem ix3_4 : ∀ t : Fin cfg3.N, win3_4.index t = ![t.val] := (by decide +kernel : ∀ t : Fin grid3.N, _)

/-- The first region's result array at its end. -/
theorem arr2 (c : Dev nD) : (dat2 V c).arrAt 4 cfg2.N
    = mlp (V c (Proc.devRef .tc main_v19)) (V c (Proc.devRef .tc main_v0)) (V c (Proc.devRef .tc main_v1)) (V c (Proc.devRef .tc main_v18)) := by
  refine (dat2 V c).arrAt_eq_of_covers 4 _ (by decide +kernel) fun t hf y => ?_
  refine mlp_eq _ _ _ _ t.val _ _ _ _ (rowBlk_eq _ _ _ (win2_0.blk t).view.emb (fun _ => rfl) ?_ ?_) ?_ ?_ ?_ y _ ?_
  · intro y; blk_simp [ix2_0]
  · intro y; blk_simp [ix2_0]
  · funext z; refine congrArg (V c (Proc.devRef .tc main_v0)) ?_; blk_ext [ix2_1]
  · funext z; refine congrArg (V c (Proc.devRef .tc main_v1)) ?_; blk_ext [ix2_2]
  · funext z; refine congrArg (V c (Proc.devRef .tc main_v18)) ?_; blk_ext [ix2_3]
  · blk_simp [ix2_4]

/-- The second region's result array at its end. -/
theorem arr3 (c : Dev nD) : (dat3 V c).arrAt 4 cfg3.N
    = mlp (V c (Proc.devRef .tc main_v20)) (V c (Proc.devRef .tc main_v0)) (V c (Proc.devRef .tc main_v1)) (V c (Proc.devRef .tc main_v18)) := by
  refine (dat3 V c).arrAt_eq_of_covers 4 _ (by decide +kernel) fun t hf y => ?_
  refine mlp_eq _ _ _ _ t.val _ _ _ _ (rowBlk_eq _ _ _ (win3_0.blk t).view.emb (fun _ => rfl) ?_ ?_) ?_ ?_ ?_ y _ ?_
  · intro y; blk_simp [ix3_0]
  · intro y; blk_simp [ix3_0]
  · funext z; refine congrArg (V c (Proc.devRef .tc main_v0)) ?_; blk_ext [ix3_1]
  · funext z; refine congrArg (V c (Proc.devRef .tc main_v1)) ?_; blk_ext [ix3_2]
  · funext z; refine congrArg (V c (Proc.devRef .tc main_v18)) ?_; blk_ext [ix3_3]
  · blk_simp [ix3_4]

end Cert.Proof
end
-- ==== Proof.Host.lean ====
module

public import proofs.«01_k».proof.Proof.Final

/-!
# The host's operations

Before the two gathers the host casts the two large weight matrices to bf16 and packs the three bias vectors and the last
weight column into one array of three rows.  This module names that line of operations and says what it leaves behind.
-/

@[expose] public section

noncomputable section

namespace Cert.Proof

open Cert.KernelIdeal Cert.KernelIdeal.Gen
open Idealize.ShloMosaic
open Idealize.ShloMosaic.TcCoe Idealize.ShloMosaic.Tactic
open Idealize.ShloMosaic.StableHlo
open Idealize.SL.Sem

variable {F : FTy → Type} [FloatOps F]

/-- An array of shape `s` over the elements of type `e`. -/
abbrev Arr (F : FTy → Type) (s : Shape) (e : EltTy) : Type := (⟨s, e⟩ : BufTy).Contents (Elt F)

/-- The host's operations before the first gather, in order. -/
abbrev hostOps : List (HloOp τ sig (Elt F)) :=
  [ unary main_arg4 main_v0 ((truncf .bf16 · bitsLt_bf16_f32) : Arr F S256x1024 .f32 → Arr F S256x1024 .bf16),
    unary main_arg6 main_v1 ((truncf .bf16 · bitsLt_bf16_f32) : Arr F S1024x512 .f32 → Arr F S1024x512 .bf16),
    nullary main_cst (constant S_ .f32 0x00000000#32),
    unary main_cst main_v2 (broadcastInDim S3x1024 ![] bcast_S_S3x1024 : Arr F S_ .f32 → Arr F S3x1024 .f32),
    nullary main_c (constantI S_ 32 0#32),
    unary main_c main_v3 (broadcastInDim S1 ![] bcast_S_S1 : Arr F S_ .i32 → Arr F S1 .i32),
    ternary main_v2 main_v3 main_arg5 main_v4 ((fun x i u => Host.scatter scatter_S3x1024_S1_S1024_0_0_0_0 (fun _ b => b) x i u) : Arr F S3x1024 .f32 → Arr F S1 .i32 → Arr F S1024 .f32 → Arr F S3x1024 .f32),
    nullary main_c_0 (constantI S_ 32 1#32),
    unary main_c_0 main_v5 (broadcastInDim S1 ![] bcast_S_S1 : Arr F S_ .i32 → Arr F S1 .i32),
    nullary main_c_1 (constantI S_ 32 0#32),
    unary main_c_1 main_v6 (broadcastInDim S1 ![] bcast_S_S1 : Arr F S_ .i32 → Arr F S1 .i32),
    binary main_v5 main_v6 main_v7 ((fun a b => concatenate S2 0 [⟨S1, a⟩, ⟨S1, b⟩] concatenates_S1_S1_S2_d0) : Arr F S1 .i32 → Arr F S1 .i32 → Arr F S2 .i32),
    ternary main_v4 main_v7 main_arg7 main_v8 ((fun x i u => Host.scatter scatter_S3x1024_S2_S512_0_0_01_0 (fun _ b => b) x i u) : Arr F S3x1024 .f32 → Arr F S2 .i32 → Arr F S512 .f32 → Arr F S3x1024 .f32),
    reshape main_arg8 main_v9 (rfl : (.f32 : EltTy) = .f32) shapeCasts_S512x1_S512,
    nullary main_c_2 (constantI S_ 32 1#32),
    unary main_c_2 main_v10 (broadcastInDim S1 ![] bcast_S_S1 : Arr F S_ .i32 → Arr F S1 .i32),
    nullary main_c_3 (constantI S_ 32 512#32),
    unary main_c_3 main_v11 (broadcastInDim S1 ![] bcast_S_S1 : Arr F S_ .i32 → Arr F S1 .i32),
    binary main_v10 main_v11 main_v12 ((fun a b => concatenate S2 0 [⟨S1, a⟩, ⟨S1, b⟩] concatenates_S1_S1_S2_d0) : Arr F S1 .i32 → Arr F S1 .i32 → Arr F S2 .i32),
    ternary main_v8 main_v12 main_v9 main_v13 ((fun x i u => Host.scatter scatter_S3x1024_S2_S512_0_0_01_0 (fun _ b => b) x i u) : Arr F S3x1024 .f32 → Arr F S2 .i32 → Arr F S512 .f32 → Arr F S3x1024 .f32),
    reshape main_arg9 main_v14 (rfl : (.f32 : EltTy) = .f32) shapeCasts_S1_S_,
    nullary main_c_4 (constantI S_ 32 2#32),
    unary main_c_4 main_v15 (broadcastInDim S1 ![] bcast_S_S1 : Arr F S_ .i32 → Arr F S1 .i32),
    nullary main_c_5 (constantI S_ 32 0#32),
    unary main_c_5 main_v16 (broadcastInDim S1 ![] bcast_S_S1 : Arr F S_ .i32 → Arr F S1 .i32),
    binary main_v15 main_v16 main_v17 ((fun a b => concatenate S2 0 [⟨S1, a⟩, ⟨S1, b⟩] concatenates_S1_S1_S2_d0) : Arr F S1 .i32 → Arr F S1 .i32 → Arr F S2 .i32),
    ternary main_v13 main_v17 main_v14 main_v18 ((fun x i u => Host.scatter scatter_S3x1024_S2_S__n_01_01_0 (fun _ b => b) x i u) : Arr F S3x1024 .f32 → Arr F S2 .i32 → Arr F S_ .f32 → Arr F S3x1024 .f32) ]

/-- The concatenation of the two halves of the result. -/
abbrev joinOp : HloOp τ sig (Elt F) :=
  binary main_v21 main_v22 main_v23 ((fun a b => concatenate S16384 0 [⟨S8192, a⟩, ⟨S8192, b⟩] concatenates_S8192_S8192_S16384_d0) : Arr F S8192 .f32 → Arr F S8192 .f32 → Arr F S16384 .f32)

/-- What follows the host's first line: the two gathers, the two TensorCore kernels, the concatenation. -/
abbrev rest (d : Dev nD) : Prog (TpuEff nD τ sig (Elt F) (SparseCore.Sig (Pipeline.Sig Λ₀ (Fin 2) fun p => (pcfgs (F := F) p).Adm) 2) .tc) PUnit := do
  sc.run d 0
  sc.run d 1
  Prog.lift (.customCall (SparseCore.inner (Pipeline.entry 0)) ())
  Prog.lift (.customCall (SparseCore.inner (Pipeline.entry 1)) ())
  hlo rfl joinOp (fun _ => .ret ⟨⟩)

theorem main_eq (d : Dev nD) : main (F := F) d = (seq hostOps >>= fun _ => rest d) := rfl

theorem hostOps_sub : (hostOps : List (HloOp τ sig (Elt F))).Forall fun op => op.bufs ⊆ tcRefs τ sig :=
  ⟨unary_bufs_sub .., unary_bufs_sub .., nullary_bufs_sub .., unary_bufs_sub .., nullary_bufs_sub .., unary_bufs_sub .., ternary_bufs_sub .., nullary_bufs_sub .., unary_bufs_sub .., nullary_bufs_sub .., unary_bufs_sub .., binary_bufs_sub .., ternary_bufs_sub .., reshape_bufs_sub .., nullary_bufs_sub .., unary_bufs_sub .., nullary_bufs_sub .., unary_bufs_sub .., binary_bufs_sub .., ternary_bufs_sub .., reshape_bufs_sub .., nullary_bufs_sub .., unary_bufs_sub .., nullary_bufs_sub .., unary_bufs_sub .., binary_bufs_sub .., ternary_bufs_sub ..⟩

theorem hostOps_fresh : (hostOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- A vector of one index. -/
def idx1 (n : BitVec 32) : Arr F S1 .i32 := broadcastInDim S1 ![] bcast_S_S1 (constantI S_ 32 n : Arr F S_ .i32)

/-- A pair of indices. -/
def idx2 (a b : BitVec 32) : Arr F S2 .i32 :=
  concatenate S2 0 [⟨S1, (idx1 a : Arr F S1 .i32)⟩, ⟨S1, (idx1 b : Arr F S1 .i32)⟩] concatenates_S1_S1_S2_d0

/-- The packed array: row 0 is the first bias; row 1 the second bias, then the last weights; the third row starts with the
    last bias. -/
def packOf (b1 : Arr F S1024 .f32) (b2 : Arr F S512 .f32) (w3 : Arr F S512x1 .f32) (b3 : Arr F S1 .f32) : Arr F S3x1024 .f32 :=
  Host.scatter scatter_S3x1024_S2_S__n_01_01_0 (fun _ b => b)
    (Host.scatter scatter_S3x1024_S2_S512_0_0_01_0 (fun _ b => b)
      (Host.scatter scatter_S3x1024_S2_S512_0_0_01_0 (fun _ b => b)
        (Host.scatter scatter_S3x1024_S1_S1024_0_0_0_0 (fun _ b => b)
          (broadcastInDim S3x1024 ![] bcast_S_S3x1024 (constant S_ .f32 0x00000000#32 : Arr F S_ .f32)) (idx1 (F := F) 0#32) b1)
        (idx2 (F := F) 1#32 0#32) b2)
      (idx2 (F := F) 1#32 512#32) (shapeCast S512 w3 shapeCasts_S512x1_S512))
    (idx2 (F := F) 2#32 0#32) (shapeCast S_ b3 shapeCasts_S1_S_)

variable (V : Valuation τ sig (Elt F))

/-- The host's line leaves the packed array. -/
theorem after_pack : after hostOps V (Proc.devRef .tc main_v18)
    = packOf (V (Proc.devRef .tc main_arg5)) (V (Proc.devRef .tc main_arg7)) (V (Proc.devRef .tc main_arg8)) (V (Proc.devRef .tc main_arg9)) := by
  after_results
  rfl

theorem after_w1 : after hostOps V (Proc.devRef .tc main_v0) = truncf .bf16 (V (Proc.devRef .tc main_arg4) : Arr F S256x1024 .f32) bitsLt_bf16_f32 := by
  after_results

theorem after_w2 : after hostOps V (Proc.devRef .tc main_v1) = truncf .bf16 (V (Proc.devRef .tc main_arg6) : Arr F S1024x512 .f32) bitsLt_bf16_f32 := by
  after_results

/-- The host's line writes none of the kernel's arguments and none of the gathered arrays. -/
theorem after_keep (r : Ref sig .tc) (hr : r ∈ [main_arg0, main_arg1, main_arg2, main_arg3, main_arg4, main_arg5, main_arg6, main_arg7, main_arg8, main_arg9, main_v19, main_v20]) :
    after hostOps V (Proc.devRef .tc r) = V (Proc.devRef .tc r) := by
  simp only [List.mem_cons, List.not_mem_nil, or_false] at hr
  rcases hr with rfl | rfl | rfl | rfl | rfl | rfl | rfl | rfl | rfl | rfl | rfl | rfl <;> after_results

end Cert.Proof
end
-- ==== Proof.Pack.lean ====
module

public import proofs.«01_k».proof.Proof.Block
public import proofs.«01_k».proof.Proof.Host
public import Idealize.ShloMosaic.Lib.Routing.OpsSet
public import Idealize.ShloMosaic.Lib.Routing.OpsPair
public import Idealize.ShloMosaic.Lib.Pointwise

/-!
# The packed array read back

The host writes the three biases and the last weights into one array of three rows. Here are that array's elements: each
of the four windows that the kernel reads of it is the vector that the host put there.
-/

@[expose] public section

noncomputable section

namespace Cert.Proof

open Cert.KernelIdeal Cert.KernelIdeal.Gen
open Idealize.ShloMosaic hiding ix0 ix1 ix2 eq_ix1 eq_ix2
open Idealize.ShloMosaic.Routing Idealize.ShloMosaic.ValueIdx

variable {F : FTy → Type} [FloatOps F]

/-- A pair of indices, read at a position. -/
theorem idx2_at (a b : BitVec 32) (k : S2.Idx) : (idx2 a b : Arr F S2 .i32) k = if (k 0).val = 0 then a else b := by
  unfold idx2
  pointwise
  by_cases h : (k 0).val = 0
  · rw [if_pos h, dif_pos (by omega)]; rfl
  · rw [if_neg h, dif_neg (by omega)]; rfl

/-- Where an element of the first vector lands. -/
theorem lands_row (e c : Fin 1024) (r : Fin 3) :
    scatter_S3x1024_S1_S1024_0_0_0_0.resultIdx? (ix1 e) (idx1 0#32 : Arr F S1 .i32) = some (ix2 r c) ↔ r.val = 0 ∧ e.val = c.val := by
  have h0 : scatter_S3x1024_S1_S1024_0_0_0_0.start (ix1 e) (idx1 0#32 : Arr F S1 .i32) 0 = 0 := rfl
  have h1 : scatter_S3x1024_S1_S1024_0_0_0_0.start (ix1 e) (idx1 0#32 : Arr F S1 .i32) 1 = 0 := rfl
  have w0 : scatter_S3x1024_S1_S1024_0_0_0_0.window (ix1 e) 0 = 0 := rfl
  have w1 : scatter_S3x1024_S1_S1024_0_0_0_0.window (ix1 e) 1 = e.val := rfl
  rw [resultIdx?_ix2, h0, h1, w0, w1]
  omega

/-- Where an element of the second and of the third vector lands. -/
theorem lands_part (a b : BitVec 32) (e : Fin 512) (r : Fin 3) (c : Fin 1024) :
    scatter_S3x1024_S2_S512_0_0_01_0.resultIdx? (ix1 e) (idx2 a b : Arr F S2 .i32) = some (ix2 r c)
      ↔ a.toInt = r.val ∧ b.toInt + e.val = c.val := by
  have h0 : scatter_S3x1024_S2_S512_0_0_01_0.start (ix1 e) (idx2 a b : Arr F S2 .i32) 0 = a.toInt := congrArg BitVec.toInt (idx2_at (F := F) a b _)
  have h1 : scatter_S3x1024_S2_S512_0_0_01_0.start (ix1 e) (idx2 a b : Arr F S2 .i32) 1 = b.toInt := congrArg BitVec.toInt (idx2_at (F := F) a b _)
  have w0 : scatter_S3x1024_S2_S512_0_0_01_0.window (ix1 e) 0 = 0 := rfl
  have w1 : scatter_S3x1024_S2_S512_0_0_01_0.window (ix1 e) 1 = e.val := rfl
  rw [resultIdx?_ix2, h0, h1, w0, w1]
  omega

/-- Where the single number lands. -/
theorem lands_one (a b : BitVec 32) (k : S_.Idx) (r : Fin 3) (c : Fin 1024) :
    scatter_S3x1024_S2_S__n_01_01_0.resultIdx? k (idx2 a b : Arr F S2 .i32) = some (ix2 r c)
      ↔ a.toInt = r.val ∧ b.toInt = c.val := by
  have h0 : scatter_S3x1024_S2_S__n_01_01_0.start k (idx2 a b : Arr F S2 .i32) 0 = a.toInt := congrArg BitVec.toInt (idx2_at (F := F) a b _)
  have h1 : scatter_S3x1024_S2_S__n_01_01_0.start k (idx2 a b : Arr F S2 .i32) 1 = b.toInt := congrArg BitVec.toInt (idx2_at (F := F) a b _)
  have w0 : scatter_S3x1024_S2_S__n_01_01_0.window k 0 = 0 := rfl
  have w1 : scatter_S3x1024_S2_S__n_01_01_0.window k 1 = 0 := rfl
  rw [resultIdx?_ix2, h0, h1, w0, w1]
  omega

variable (b1 : Arr F S1024 .f32) (b2 : Arr F S512 .f32) (w3 : Arr F S512x1 .f32) (b3 : Arr F S1 .f32)

/-- The third row is written last: the other two rows are what stood before. -/
theorem pack_not_last (r : Fin 3) (c : Fin 1024) (hr : r.val ≠ 2) :
    packOf b1 b2 w3 b3 (ix2 r c) = Host.scatter scatter_S3x1024_S2_S512_0_0_01_0 (fun _ b => b)
      (Host.scatter scatter_S3x1024_S2_S512_0_0_01_0 (fun _ b => b)
        (Host.scatter scatter_S3x1024_S1_S1024_0_0_0_0 (fun _ b => b)
          (broadcastInDim S3x1024 ![] bcast_S_S3x1024 (constant S_ .f32 0x00000000#32 : Arr F S_ .f32)) (idx1 (F := F) 0#32) b1)
        (idx2 (F := F) 1#32 0#32) b2)
      (idx2 (F := F) 1#32 512#32) (shapeCast S512 w3 shapeCasts_S512x1_S512) (ix2 r c) :=
  scatter_set_miss _ _ _ _ _ fun k h => hr (by
    have := ((lands_one (F := F) _ _ k r c).1 h).1
    rw [show (2#32 : BitVec 32).toInt = 2 from rfl] at this
    omega)

/-- The first row is the first bias. -/
theorem pack_b1 (c : Fin 1024) : packOf b1 b2 w3 b3 (ix2 0 c) = b1 (ix1 c) := by
  rw [pack_not_last b1 b2 w3 b3 0 c (by decide)]
  have hm : ∀ (b : BitVec 32) (k : S512.Idx), scatter_S3x1024_S2_S512_0_0_01_0.resultIdx? k (idx2 1#32 b : Arr F S2 .i32) ≠ some (ix2 0 c) := by
    intro b k h
    rw [eq_ix1 k] at h
    exact absurd ((lands_part (F := F) _ _ _ _ c).1 h).1 (by decide)
  rw [scatter_set_miss _ _ _ _ _ (hm _), scatter_set_miss _ _ _ _ _ (hm _)]
  refine scatter_set_hit _ _ _ _ _ _ (fun k h => ?_) (ix1 c) ((lands_row (F := F) c c 0).2 ⟨rfl, rfl⟩)
  rw [eq_ix1 k] at h ⊢
  exact congrArg (fun i => b1 (ix1 i)) (Fin.ext ((lands_row (F := F) _ c 0).1 h).2)

/-- The second row starts with the second bias. -/
theorem pack_b2 (c : Fin 512) : packOf b1 b2 w3 b3 (ix2 1 ⟨c.val, by omega⟩) = b2 (ix1 c) := by
  rw [pack_not_last b1 b2 w3 b3 1 _ (by decide)]
  rw [scatter_set_miss _ _ _ _ _ fun k h => ?_]
  · refine scatter_set_hit _ _ _ _ _ _ (fun k h => ?_) (ix1 c) ((lands_part (F := F) _ _ c 1 _).2 ⟨rfl, by rw [show (0#32 : BitVec 32).toInt = 0 from rfl]; exact zero_add _⟩)
    rw [eq_ix1 k] at h ⊢
    have := ((lands_part (F := F) _ _ _ _ _).1 h).2
    rw [show (0#32 : BitVec 32).toInt = 0 from rfl] at this
    exact congrArg (fun i => b2 (ix1 i)) (Fin.ext (by have : ((k 0).val : Int) = c.val := by simpa using this
                                                      omega))
  · rw [eq_ix1 k] at h
    have := ((lands_part (F := F) _ _ _ _ _).1 h).2
    rw [show (512#32 : BitVec 32).toInt = 512 from rfl] at this
    have hc := c.isLt
    have : (512 : Int) + (k 0).val = c.val := this
    omega

/-- The second row ends with the last weights. -/
theorem pack_w3 (c : Fin 512) : packOf b1 b2 w3 b3 (ix2 1 ⟨512 + c.val, by omega⟩) = w3 (ix2 c 0) := by
  rw [pack_not_last b1 b2 w3 b3 1 _ (by decide)]
  have hv : (shapeCast S512 w3 shapeCasts_S512x1_S512 : Arr F S512 .f32) (ix1 c) = w3 (ix2 c 0) := by
    pointwise
    exact congrArg w3 (ix2_eq_valueIdx _ _)
  rw [← hv]
  refine scatter_set_hit _ _ _ _ _ _ (fun k h => ?_) (ix1 c) ((lands_part (F := F) _ _ c 1 _).2 ⟨rfl, by
    rw [show (512#32 : BitVec 32).toInt = 512 from rfl]; show (512 : Int) + c.val = ((512 + c.val : Nat) : Int); omega⟩)
  rw [eq_ix1 k] at h ⊢
  have := ((lands_part (F := F) _ _ _ _ _).1 h).2
  rw [show (512#32 : BitVec 32).toInt = 512 from rfl] at this
  have : (512 : Int) + (k 0).val = ((512 + c.val : Nat) : Int) := this
  exact congrArg (fun i => (shapeCast S512 w3 shapeCasts_S512x1_S512 : Arr F S512 .f32) (ix1 i)) (Fin.ext (by omega))

/-- The third row starts with the last bias. -/
theorem pack_b3 : packOf b1 b2 w3 b3 (ix2 2 0) = b3 (ix1 0) := by
  have hv : ∀ k : S_.Idx, (shapeCast S_ b3 shapeCasts_S1_S_ : Arr F S_ .f32) k = b3 (ix1 0) := fun k => by
    pointwise
    exact congrArg b3 (ix1_eq_valueIdx _)
  exact scatter_set_hit _ _ _ _ _ _ (fun k _ => hv k) ix0 ((lands_one (F := F) _ _ ix0 2 0).2 ⟨rfl, rfl⟩)

/-- The first window, the whole first row, is the first bias. -/
theorem pkB1_pack (y : S1x1024.Idx) : pkB1 (packOf b1 b2 w3 b3) y = b1 (Idealize.ShloMosaic.ix1 (y 1)) := by
  refine Eq.trans (congrArg (packOf b1 b2 w3 b3) (funext fun a => Fin.ext ?_)) ((pack_b1 b1 b2 w3 b3 (y 1)).trans (congrArg b1 (ix1_eq_valueIdx _).symm))
  have h0 : (y 0).val < 1 := (y 0).isLt
  match a with
  | ⟨0, _⟩ => show 0 + 1 * (y 0).val = 0; omega
  | ⟨1, _⟩ => show 0 + 1 * (y 1).val = (y 1).val; omega

/-- The second window, the left half of the second row, is the second bias. -/
theorem pkB2_pack (y : S1x512.Idx) : pkB2 (packOf b1 b2 w3 b3) y = b2 (Idealize.ShloMosaic.ix1 (y 1)) := by
  refine Eq.trans (congrArg (packOf b1 b2 w3 b3) (funext fun a => Fin.ext ?_)) ((pack_b2 b1 b2 w3 b3 (y 1)).trans (congrArg b2 (ix1_eq_valueIdx _).symm))
  have h0 : (y 0).val < 1 := (y 0).isLt
  match a with
  | ⟨0, _⟩ => show 1 + 1 * (y 0).val = 1; omega
  | ⟨1, _⟩ => show 0 + 1 * (y 1).val = (y 1).val; omega

/-- The third window, the right half of the second row, is the last weights. -/
theorem pkW3_pack (y : S1x512.Idx) : pkW3 (packOf b1 b2 w3 b3) y = w3 (Idealize.ShloMosaic.ix2 (y 1) 0) := by
  refine Eq.trans (congrArg (packOf b1 b2 w3 b3) (funext fun a => Fin.ext ?_)) ((pack_w3 b1 b2 w3 b3 (y 1)).trans (congrArg w3 (ix2_eq_valueIdx _ _).symm))
  have h0 : (y 0).val < 1 := (y 0).isLt
  match a with
  | ⟨0, _⟩ => show 1 + 1 * (y 0).val = 1; omega
  | ⟨1, _⟩ => show 512 + 1 * (y 1).val = 512 + (y 1).val; omega

/-- The fourth window, the first element of the third row, is the last bias. -/
theorem pkB3_pack (y : S1x1.Idx) : pkB3 (packOf b1 b2 w3 b3) y = b3 (Idealize.ShloMosaic.ix1 0) := by
  refine Eq.trans (congrArg (packOf b1 b2 w3 b3) (funext fun a => Fin.ext ?_)) ((pack_b3 b1 b2 w3 b3).trans (congrArg b3 (ix1_eq_valueIdx _).symm))
  have h0 : (y 0).val < 1 := (y 0).isLt
  have h1 : (y 1).val < 1 := (y 1).isLt
  match a with
  | ⟨0, _⟩ => show 2 + 1 * (y 0).val = 2; omega
  | ⟨1, _⟩ => show 0 + 1 * (y 1).val = 0; omega

end Cert.Proof
end
-- ==== Proof.Row.lean ====
module

public import proofs.«01_k».proof.Proof.Pack

/-!
# One row's value

The perceptron's value of one row over the extended reals, and the kernel's block value at a position of the block.
-/

@[expose] public section

noncomputable section

namespace Cert.Proof

open Cert.KernelIdeal Cert.KernelIdeal.Gen
open Idealize.ShloMosaic

/-- The perceptron's value of a row `x` of 256 numbers: two layers of affine maps cut off below at zero, then the last
    affine map. -/
def rowVal (x : Fin 256 → EReal) (w1 : S256x1024.Idx → EReal) (b1 : S1024.Idx → EReal) (w2 : S1024x512.Idx → EReal) (b2 : S512.Idx → EReal)
    (w3 : S512x1.Idx → EReal) (b3 : S1.Idx → EReal) : EReal :=
  (∑ l : Fin 512, max ((∑ k : Fin 1024, max ((∑ i : Fin 256, x i * w1 (ix2 i k)) + b1 (ix1 k)) 0 * w2 (ix2 k l)) + b2 (ix1 l)) 0 * w3 (ix2 l 0)) + b3 (ix1 0)

set_option maxRecDepth 16384 in
/-- The kernel's value of a block at position `y` is the perceptron's value of the block's row `y`. -/
theorem blockOf_eq (x : Arr Ideal S2048x256 .f32) (w1 : Arr Ideal S256x1024 .bf16) (w2 : Arr Ideal S1024x512 .bf16)
    (b1 : Arr Ideal S1024 .f32) (b2 : Arr Ideal S512 .f32) (w3 : Arr Ideal S512x1 .f32) (b3 : Arr Ideal S1 .f32) (y : Fin 2048) :
    blockOf x w1 w2 (packOf b1 b2 w3 b3) (ix1 y) = rowVal (fun i => x (ix2 y i)) w1 b1 w2 b2 w3 b3 := by
  unfold blockOf rowVal
  pointwise [k2_pay1]
  simp only [pkB1_pack, pkB2_pack, pkW3_pack, pkB3_pack]
  pointwise
  exact congrArg (· + b3 (ix1 0)) (Finset.sum_congr rfl fun l _ => mul_comm _ _)

end Cert.Proof
end
-- ==== Proof.Take.lean ====
module

public import proofs.«01_k».proof.Proof.Row
public import proofs.«01_k».proof.Proof.Gen.ReferenceIdeal.Run
public import Idealize.ShloMosaic.Lib.ReduceAll

/-!
# The reference's rows

The reference takes the rows of a table by an operation that wraps negative indices and puts a fixed value where an index
is out of range. Where every index is in range the operation's rows are the table's rows.
-/

@[expose] public section

noncomputable section

namespace Cert.Proof

open Cert.ReferenceIdeal Cert.ReferenceIdeal.Gen
open Idealize.ShloMosaic

variable {F : FTy → Type} [FloatOps F]

/-- The indices, a negative one moved up by the number of rows, as a column. -/
def wrapped (ids : Arr F S16384 .i32) : Arr F S16384x1 .i32 :=
  broadcastInDim S16384x1 ![0] bcast_S16384_S16384x1_0 (select (cmpi .slt ids (broadcastInDim S16384 ![] bcast_S_S16384 (constantI S_ 32 0#32)))
    (addi ids (broadcastInDim S16384 ![] bcast_S_S16384 (constantI S_ 32 100000#32))) ids)

/-- Which indices are in range. -/
def inRange (ids : Arr F S16384 .i32) : Arr F S16384x1 .i1 :=
  andi (cmpi .sge (wrapped (F := F) ids) (broadcastInDim S16384x1 ![] bcast_S_S16384x1 (constantI S_ 32 0#32)))
    (cmpi .sle (wrapped (F := F) ids) (broadcastInDim S16384x1 ![0, 1] bcast_S1x1_S16384x1_0_1 (broadcastInDim S1x1 ![1] bcast_S1_S1x1_1 (constantI S1 32 99999#32))))

/-- The rows that the reference takes of a table. -/
def takeOf (tab : Arr F S100000x128 .f32) (ids : Arr F S16384 .i32) : Arr F S16384x128 .f32 :=
  select (broadcastInDim S16384x128 ![0] bcast_S16384_S16384x128_0 (Host.reduce IntOp.andi (inRange (F := F) ids) (constantI S_ 1 1#1) reducesTo_S16384x1_S16384_d1 h_S_))
    (Host.gather gather_S100000x128_S16384x1_S16384x128_1_0_n_n_0_1_1128 tab (wrapped (F := F) ids))
    (broadcastInDim S16384x128 ![] bcast_S_S16384x128 (constant S_ .f32 0x7FC00000#32))

/-- An index in range is not moved. -/
theorem wrapped_at (ids : Arr F S16384 .i32) (j : Fin 16384) (k : Fin 1) (h : (ids (ix1 j)).toNat < 100000) :
    wrapped (F := F) ids (ix2 j k) = ids (ix1 j) := by
  unfold wrapped
  pointwise
  have hn : ¬ (ids (ix1 j)).toInt < (0#32 : BitVec 32).toInt := by
    rw [BitVec.toInt_eq_toNat_of_lt (by omega), show (0#32 : BitVec 32).toInt = 0 from rfl]
    omega
  have hc : IntOp.cmpi .slt (ids (ix1 j)) 0#32 ≠ 1#1 := fun q => hn (IntOp.cmpi_slt.1 q)
  exact if_neg hc

/-- Every index is in range. -/
theorem inRange_at (ids : Arr F S16384 .i32) (h : ∀ j, (ids j).toNat < 100000) (i : S16384x1.Idx) : inRange (F := F) ids i = 1#1 := by
  obtain ⟨a, b, rfl⟩ : ∃ (a : Fin 16384) (b : Fin 1), i = ix2 a b := ⟨i 0, i 1, eq_ix2 i⟩
  have hb := h (ix1 a)
  have hi : BitVec.toInt (ids (ix1 a)) = (ids (ix1 a)).toNat := BitVec.toInt_eq_toNat_of_lt (by omega)
  refine IntOp.andi_eq_one.2 ⟨IntOp.cmpi_sge.2 ?_, IntOp.cmpi_sle.2 ?_⟩
  · rw [wrapped_at ids _ _ hb]
    show (0#32 : BitVec 32).toInt ≤ _
    rw [hi, show (0#32 : BitVec 32).toInt = 0 from rfl]
    omega
  · rw [wrapped_at ids _ _ hb]
    show _ ≤ (99999#32 : BitVec 32).toInt
    rw [hi, show (99999#32 : BitVec 32).toInt = 99999 from rfl]
    omega

/-- The rows that the reference takes are the table's rows. -/
theorem takeOf_at (tab : Arr F S100000x128 .f32) (ids : Arr F S16384 .i32) (h : ∀ j, (ids j).toNat < 100000) (j : Fin 16384) (c : Fin 128) :
    takeOf tab ids (ix2 j c) = tab (ix2 ⟨(ids (ix1 j)).toNat, h _⟩ c) := by
  have hm : (broadcastInDim S16384x128 ![0] bcast_S16384_S16384x128_0
      (Host.reduce IntOp.andi (inRange (F := F) ids) (constantI S_ 1 1#1) reducesTo_S16384x1_S16384_d1 h_S_) : Arr F S16384x128 .i1) (ix2 j c) = 1#1 :=
    Host.reduce_andi_one _ _ _ _ _ rfl (inRange_at ids h)
  have hw : wrapped (F := F) ids (ValueIdx.ix2 j (0 : Fin 1)) = BitVec.ofNat 32 (ids (ix1 j)).toNat := by
    rw [← ix2_eq_valueIdx, wrapped_at ids _ _ (h _)]
    exact BitVec.eq_of_toNat_eq (by rw [BitVec.toNat_ofNat]; exact (Nat.mod_eq_of_lt (ids (ix1 j)).isLt).symm)
  have hg := Routing.gather_row gather_S100000x128_S16384x1_S16384x128_1_0_n_n_0_1_1128 rfl rfl rfl rfl rfl tab (wrapped (F := F) ids) j c
    ⟨(ids (ix1 j)).toNat, h _⟩ hw (by decide)
  rw [← ix2_eq_valueIdx, ← ix2_eq_valueIdx] at hg
  have hs : ∀ (p : BitVec 1) (a b : F .f32), p = 1#1 → Scalar.select p a b = a := fun _ _ _ q => if_pos q
  unfold takeOf
  refine Eq.trans (b := Host.gather gather_S100000x128_S16384x1_S16384x128_1_0_n_n_0_1_1128 tab (wrapped (F := F) ids) (ix2 j c)) ?_ ?_
  · unfold select
    exact hs _ _ _ hm
  · exact hg

end Cert.Proof
end
-- ==== Proof.Task.lean ====
/-
  One vector subcore's task, written once for both SparseCore calls: the two calls differ in which half of the id
  lists a task reads, in the output array and in the scratch, all of which are parameters here.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Task

variable (c : Fin τ.nSC) (s : Fin τ.nSub)
  (o1 o2 : Fin 1 → Nat) (h1 : ∀ a, o1 a + S128.size a ≤ S16384.size a) (h2 : ∀ a, o2 a + S128.size a ≤ S16384.size a)
  (o3 o4 o5 o6 : Fin 2 → Nat) (h3 : ∀ a, o3 a + S128x128.size a ≤ S8192x256.size a) (h4 : ∀ a, o4 a + S128x128.size a ≤ S8192x256.size a)
  (h5 : ∀ a, o5 a + S128x128.size a ≤ S8192x256.size a) (h6 : ∀ a, o6 a + S128x128.size a ≤ S8192x256.size a)
  (pol : Memref sig .scVector .hbm S100000x128 .f32) (hpol : pol.IsWhole) (tick : Memref sig .scVector .hbm S100000x128 .f32) (htick : tick.IsWhole)
  (pid : Memref sig .scVector .hbm S16384 .i32) (hpid : pid.IsWhole) (tid : Memref sig .scVector .hbm S16384 .i32) (htid : tid.IsWhole)
  (out : Memref sig .scVector .hbm S8192x256 .f32) (hout : out.IsWhole)
  (ip0 : Memref sig .scVector .vmem S128 .i32) (hip0 : ip0.IsWhole) (ip1 : Memref sig .scVector .vmem S128 .i32) (hip1 : ip1.IsWhole)
  (it0 : Memref sig .scVector .vmem S128 .i32) (hit0 : it0.IsWhole) (it1 : Memref sig .scVector .vmem S128 .i32) (hit1 : it1.IsWhole)
  (rp0 : Memref sig .scVector .vmem S128x128 .f32) (hrp0 : rp0.IsWhole) (rp1 : Memref sig .scVector .vmem S128x128 .f32) (hrp1 : rp1.IsWhole)
  (rt0 : Memref sig .scVector .vmem S128x128 .f32) (hrt0 : rt0.IsWhole) (rt1 : Memref sig .scVector .vmem S128x128 .f32) (hrt1 : rt1.IsWhole)
  (l0 l1 l2 l3 s0 s1 s2 s3 w0 w1 w2 w3 : DmaSems sig S_)

/-- A run of 128 ids in a list of ids. -/
abbrev idPart (ids : Memref sig .scVector .hbm S16384 .i32) (o : Fin 1 → Nat) (h : ∀ a, o a + S128.size a ≤ S16384.size a) :
    Memref sig .scVector .hbm S128 .i32 := ids.slice (Rect.unit (s := S16384) o S128.size h) (fun _ => rfl)
/-- A table, addressed whole. -/
abbrev table (t : Memref sig .scVector .hbm S100000x128 .f32) : Memref sig .scVector .hbm S100000x128 .f32 :=
  t.slice (Rect.unit (s := S100000x128) ![0, 0] S100000x128.size inb_S100000x128_S100000x128_0_0) (fun _ => rfl)
/-- A square block of the output. -/
abbrev outPart (out : Memref sig .scVector .hbm S8192x256 .f32) (o : Fin 2 → Nat) (h : ∀ a, o a + S128x128.size a ≤ S8192x256.size a) :
    Memref sig .scVector .hbm S128x128 .f32 := out.slice (Rect.unit (s := S8192x256) o S128x128.size h) (fun _ => rfl)

/-- The task up to the end of its first gather. -/
def taskHead : Prog (TpuEff nD τ sig (Elt F) Λ₀ (.scVector c s)) PUnit := do
  Prog.lift (.enqueueDma (idPart pid o1 h1) (.here ip0) (.dma l0.sem) (View.wordExact_bits rfl) hip0.wordExact ⟨Or.inl rfl, trivial⟩)
  Prog.lift (.enqueueDma (idPart pid o2 h2) (.here ip1) (.dma l1.sem) (View.wordExact_bits rfl) hip1.wordExact ⟨Or.inl rfl, trivial⟩)
  Prog.lift (.enqueueDma (idPart tid o1 h1) (.here it0) (.dma l2.sem) (View.wordExact_bits rfl) hit0.wordExact ⟨Or.inl rfl, trivial⟩)
  Prog.lift (.enqueueDma (idPart tid o2 h2) (.here it1) (.dma l3.sem) (View.wordExact_bits rfl) hit1.wordExact ⟨Or.inl rfl, trivial⟩)
  Prog.lift (.waitDma2 l0.sem (idPart pid o1 h1) ip0 (View.wordExact_bits rfl) hip0.wordExact)
  SparseCore.enqueueIndirectGather rfl (table pol) rp0 gathers_S100000x128_S128x128 ip0 rfl s0.sem (View.wordExact_bits rfl) rfl (Or.inl rfl)
  Prog.lift (.waitDma2 l1.sem (idPart pid o2 h2) ip1 (View.wordExact_bits rfl) hip1.wordExact)
  SparseCore.enqueueIndirectGather rfl (table pol) rp1 gathers_S100000x128_S128x128 ip1 rfl s1.sem (View.wordExact_bits rfl) rfl (Or.inl rfl)
  Prog.lift (.waitDma2 l2.sem (idPart tid o1 h1) it0 (View.wordExact_bits rfl) hit0.wordExact)
  SparseCore.enqueueIndirectGather rfl (table tick) rt0 gathers_S100000x128_S128x128 it0 rfl s2.sem (View.wordExact_bits rfl) rfl (Or.inl rfl)
  Prog.lift (.waitDma2 l3.sem (idPart tid o2 h2) it1 (View.wordExact_bits rfl) hit1.wordExact)
  SparseCore.enqueueIndirectGather rfl (table tick) rt1 gathers_S100000x128_S128x128 it1 rfl s3.sem (View.wordExact_bits rfl) rfl (Or.inl rfl)
  SparseCore.waitIndirectGather s0.sem (table pol) rp0 (View.wordExact_bits rfl) hrp0.wordExact

/-- The rest of the task: each gathered block written out, the write-outs awaited. -/
def taskTail : Prog (TpuEff nD τ sig (Elt F) Λ₀ (.scVector c s)) PUnit := do
  Prog.lift (.enqueueDma rp0 (.here (outPart out o3 h3)) (.dma w0.sem) hrp0.wordExact (View.wordExact_bits rfl) ⟨Or.inl rfl, trivial⟩)
  SparseCore.waitIndirectGather s1.sem (table pol) rp1 (View.wordExact_bits rfl) hrp1.wordExact
  Prog.lift (.enqueueDma rp1 (.here (outPart out o4 h4)) (.dma w1.sem) hrp1.wordExact (View.wordExact_bits rfl) ⟨Or.inl rfl, trivial⟩)
  SparseCore.waitIndirectGather s2.sem (table tick) rt0 (View.wordExact_bits rfl) hrt0.wordExact
  Prog.lift (.enqueueDma rt0 (.here (outPart out o5 h5)) (.dma w2.sem) hrt0.wordExact (View.wordExact_bits rfl) ⟨Or.inl rfl, trivial⟩)
  SparseCore.waitIndirectGather s3.sem (table tick) rt1 (View.wordExact_bits rfl) hrt1.wordExact
  Prog.lift (.enqueueDma rt1 (.here (outPart out o6 h6)) (.dma w3.sem) hrt1.wordExact (View.wordExact_bits rfl) ⟨Or.inl rfl, trivial⟩)
  Prog.lift (.waitDma2 w0.sem rp0 (outPart out o3 h3) hrp0.wordExact (View.wordExact_bits rfl))
  Prog.lift (.waitDma2 w1.sem rp1 (outPart out o4 h4) hrp1.wordExact (View.wordExact_bits rfl))
  Prog.lift (.waitDma2 w2.sem rt0 (outPart out o5 h5) hrt0.wordExact (View.wordExact_bits rfl))
  Prog.lift (.waitDma2 w3.sem rt1 (outPart out o6 h6) hrt1.wordExact (View.wordExact_bits rfl))
  pure ⟨⟩

/-- The whole task. -/
def task : Prog (TpuEff nD τ sig (Elt F) Λ₀ (.scVector c s)) PUnit := do
  taskHead c s o1 o2 h1 h2 pol tick pid tid ip0 hip0 ip1 hip1 it0 hit0 it1 hit1 rp0 hrp0 rp1 rt0 rt1 l0 l1 l2 l3 s0 s1 s2 s3
  taskTail c s o3 o4 o5 o6 h3 h4 h5 h6 pol tick out rp0 hrp0 rp1 hrp1 rt0 hrt0 rt1 hrt1 s1 s2 s3 w0 w1 w2 w3

end Task

/-- The first call's kernel is the task at the first half's offsets. -/
theorem cc0_k_eq (i : grid0.Coords) : cc0_k (F := F) i = fun pol hpol tick htick pid hpid tid htid out hout ip0 hip0 ip1 hip1 it0 hit0 it1 hit1 rp0 hrp0 rp1 hrp1 rt0 hrt0 rt1 hrt1
      l0 l1 l2 l3 s0 s1 s2 s3 w0 w1 w2 w3 =>
    task ((i 0).castLE hcore0) ((i 1).castLE hsub0) (k0_off1 i) (k0_off2 i) (k0_off1_inb i) (k0_off2_inb i) (k0_off3 i) (k0_off4 i) (k0_off5 i) (k0_off6 i)
      (k0_off3_inb i) (k0_off4_inb i) (k0_off5_inb i) (k0_off6_inb i) pol tick pid tid out ip0 hip0 ip1 hip1 it0 hit0 it1 hit1 rp0 hrp0 rp1 hrp1 rt0 hrt0 rt1 hrt1
      l0 l1 l2 l3 s0 s1 s2 s3 w0 w1 w2 w3 := by
  funext pol hpol tick htick pid hpid tid htid out hout ip0 hip0 ip1 hip1 it0 hit0 it1 hit1 rp0 hrp0 rp1 hrp1 rt0 hrt0 rt1 hrt1 l0 l1 l2 l3 s0 s1 s2 s3 w0 w1 w2 w3
  rfl

/-- The second call's kernel is the task at the second half's offsets. -/
theorem cc1_k_eq (i : grid1.Coords) : cc1_k (F := F) i = fun pol hpol tick htick pid hpid tid htid out hout ip0 hip0 ip1 hip1 it0 hit0 it1 hit1 rp0 hrp0 rp1 hrp1 rt0 hrt0 rt1 hrt1
      l0 l1 l2 l3 s0 s1 s2 s3 w0 w1 w2 w3 =>
    task ((i 0).castLE hcore1) ((i 1).castLE hsub1) (k1_off1 i) (k1_off2 i) (k1_off1_inb i) (k1_off2_inb i) (k1_off3 i) (k1_off4 i) (k1_off5 i) (k1_off6 i)
      (k1_off3_inb i) (k1_off4_inb i) (k1_off5_inb i) (k1_off6_inb i) pol tick pid tid out ip0 hip0 ip1 hip1 it0 hit0 it1 hit1 rp0 hrp0 rp1 hrp1 rt0 hrt0 rt1 hrt1
      l0 l1 l2 l3 s0 s1 s2 s3 w0 w1 w2 w3 := by
  funext pol hpol tick htick pid hpid tid htid out hout ip0 hip0 ip1 hip1 it0 hit0 it1 hit1 rp0 hrp0 rp1 hrp1 rt0 hrt0 rt1 hrt1 l0 l1 l2 l3 s0 s1 s2 s3 w0 w1 w2 w3
  rfl

end Cert.Proof

end
-- ==== Proof.TaskRun.lean ====
/-
  The run of one task: four index loads, four gathers of 128 rows each, four copies out, each waited for on its own
  semaphore. At the end the task's four blocks of the call's array hold the rows its ids name.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 2) (Elt F) ℕ UU ℕ

/-- After a whole write, a view reads what was written. -/
theorem read_whole_write {κ : Kind} {sp : Space} {sh : Shape} {e : EltTy} (v : View sig κ sp sh e) (f : v.ty.Contents (Elt F)) (w : (Rect.whole sh).shape.Idx → Elt F e) (x : sh.Idx) :
    v.read (Elt F) (v.writes (Elt F) f [⟨Rect.whole sh, w⟩]) x = w x := by
  have h := View.read_writes_cons_emb (Val := Elt F) v f (Rect.whole sh) w [] x
  rwa [Rect.emb_whole_apply] at h

/-- A list filled with a run of ids all of which are below 100000 holds numbers below 100000. -/
theorem fetched_lt (ids : Memref sig .scVector .hbm S16384 .i32) (fids : ids.view.ty.Contents (Elt F)) (o : Fin 1 → Nat) (h : ∀ a, o a + S128.size a ≤ S16384.size a)
    (hids : ∀ j, (ids.view.read (Elt F) fids j).toNat < 100000) (ip : Memref sig .scVector .vmem S128 .i32) (j0 : ip.view.ty.Contents (Elt F)) (x : S128.Idx) :
    (ip.view.read (Elt F) (ip.view.writes (Elt F) j0 [⟨Rect.whole S128, (idPart ids o h).view.read (Elt F) fids⟩]) x).toNat < 100000 := by
  rw [read_whole_write]
  exact hids _

/-- A block holds the table's rows that a list of numbers names, in the list's order. -/
def Gathered (g : S128x128.Idx → Elt F .f32) (tab : S100000x128.Idx → Elt F .f32) (ids : S128.Idx → BitVec 32) : Prop :=
  ∀ (x : S128x128.Idx) (z : S128.Idx) (y : S100000x128.Idx), (z 0).val = (x 0).val → (y 0).val = (ids z).toNat → (y 1).val = (x 1).val → g x = tab y

/-- What an indirect gather delivers is the table's rows that the list names. -/
theorem gatherPayload_gathered (tab : S100000x128.Idx → Elt F .f32) (ids : S128.Idx → Elt F .i32)
    (hin : ∀ x, (ids x).toNat < S100000x128.size gathers_S100000x128_S128x128.axis) (x : S128x128.Idx) (g : S128x128.Idx → Elt F .f32) (hg : Gathered g tab ids) :
    SparseCore.gatherPayload gathers_S100000x128_S128x128 tab (SparseCore.rows ids (rfl : S128.numel = S128x128.size gathers_S100000x128_S128x128.axis') hin) x = g x := by
  refine (hg x (S128.rowMajor.symm ((x 0).cast rfl)) _ ?_ ?_ ?_).symm
  · have := Shape.rowMajor_val_one (S128.rowMajor.symm ((x 0).cast rfl))
    rw [← this]; erw [Equiv.apply_symm_apply]; rfl
  · exact congrArg Fin.val (Shape.Gathers.idx_axis gathers_S100000x128_S128x128 (SparseCore.rows ids (rfl : S128.numel = S128x128.size gathers_S100000x128_S128x128.axis') hin) x)
  · have := Shape.Gathers.idx_of_ne gathers_S100000x128_S128x128 (SparseCore.rows ids (rfl : S128.numel = S128x128.size gathers_S100000x128_S128x128.axis') hin) x 1 (by decide)
    exact this

/-- A block of the output written from a row buffer filled by an indirect gather holds, on its elements, any contents
    that hold the gathered rows there. -/
theorem written_eq {sp : Space} (part : Memref sig .scVector sp S128x128 .f32) (f G : part.view.ty.Contents (Elt F)) (rb : Memref sig .scVector .vmem S128x128 .f32)
    (r : rb.view.ty.Contents (Elt F)) (tab : S100000x128.Idx → Elt F .f32) (ip : Memref sig .scVector .vmem S128 .i32) (j0 : ip.view.ty.Contents (Elt F)) (l : S128.Idx → Elt F .i32)
    (hin : ∀ x, (ip.view.read (Elt F) (ip.view.writes (Elt F) j0 [⟨Rect.whole S128, l⟩]) x).toNat < S100000x128.size gathers_S100000x128_S128x128.axis)
    (hG : Gathered (part.view.read (Elt F) G) tab l) :
    ∀ i ∈ part.view.set, part.view.writes (Elt F) f [⟨Rect.whole S128x128, rb.view.read (Elt F) (rb.view.writes (Elt F) r [⟨Rect.whole S128x128,
      SparseCore.gatherPayload gathers_S100000x128_S128x128 tab (SparseCore.rows (ip.view.read (Elt F) (ip.view.writes (Elt F) j0 [⟨Rect.whole S128, l⟩]))
        (rfl : S128.numel = S128x128.size gathers_S100000x128_S128x128.axis') hin)⟩])⟩] i = G i := by
  intro i hi
  obtain ⟨x, -, rfl⟩ := Finset.mem_map.mp hi
  have h : ∀ x, part.view.read (Elt F) (part.view.writes (Elt F) f [⟨Rect.whole S128x128, rb.view.read (Elt F) (rb.view.writes (Elt F) r [⟨Rect.whole S128x128,
      SparseCore.gatherPayload gathers_S100000x128_S128x128 tab (SparseCore.rows (ip.view.read (Elt F) (ip.view.writes (Elt F) j0 [⟨Rect.whole S128, l⟩]))
        (rfl : S128.numel = S128x128.size gathers_S100000x128_S128x128.axis') hin)⟩])⟩]) x = part.view.read (Elt F) G x := fun x => by
    rw [read_whole_write, read_whole_write]
    refine gatherPayload_gathered _ _ _ _ _ ?_
    intro x z y hz hy hy'
    rw [read_whole_write] at hy
    exact hG x z y hz hy hy'
  have := h x
  simp only [View.read_apply] at this
  exact (cast_inj _).mp this

section Task

variable (d : Dev nD) (c : Fin τ.nSC) (s : Fin τ.nSub)
  (o1 o2 : Fin 1 → Nat) (h1 : ∀ a, o1 a + S128.size a ≤ S16384.size a) (h2 : ∀ a, o2 a + S128.size a ≤ S16384.size a)
  (o3 o4 o5 o6 : Fin 2 → Nat) (h3 : ∀ a, o3 a + S128x128.size a ≤ S8192x256.size a) (h4 : ∀ a, o4 a + S128x128.size a ≤ S8192x256.size a)
  (h5 : ∀ a, o5 a + S128x128.size a ≤ S8192x256.size a) (h6 : ∀ a, o6 a + S128x128.size a ≤ S8192x256.size a)
  (pol : Memref sig .scVector .hbm S100000x128 .f32) (hpol : pol.IsWhole) (tick : Memref sig .scVector .hbm S100000x128 .f32) (htick : tick.IsWhole)
  (pid : Memref sig .scVector .hbm S16384 .i32) (hpid : pid.IsWhole) (tid : Memref sig .scVector .hbm S16384 .i32) (htid : tid.IsWhole)
  (out : Memref sig .scVector .hbm S8192x256 .f32) (hout : out.IsWhole)
  (ip0 : Memref sig .scVector .vmem S128 .i32) (hip0 : ip0.IsWhole) (ip1 : Memref sig .scVector .vmem S128 .i32) (hip1 : ip1.IsWhole)
  (it0 : Memref sig .scVector .vmem S128 .i32) (hit0 : it0.IsWhole) (it1 : Memref sig .scVector .vmem S128 .i32) (hit1 : it1.IsWhole)
  (rp0 : Memref sig .scVector .vmem S128x128 .f32) (hrp0 : rp0.IsWhole) (rp1 : Memref sig .scVector .vmem S128x128 .f32) (hrp1 : rp1.IsWhole)
  (rt0 : Memref sig .scVector .vmem S128x128 .f32) (hrt0 : rt0.IsWhole) (rt1 : Memref sig .scVector .vmem S128x128 .f32) (hrt1 : rt1.IsWhole)
  (l0 l1 l2 l3 s0 s1 s2 s3 w0 w1 w2 w3 : DmaSems sig S_)

theorem task_wp (q1 q2 : PosShare TreeShare) (O : CellTallies nD τ sig (HIx 2)) (W : Waits sig (HIx 2))
    (fpol : Buf (Elt F) (pol.view.loc (V d c s : Thread nD τ))) (ftick : Buf (Elt F) (tick.view.loc (V d c s : Thread nD τ))) (fpid : Buf (Elt F) (pid.view.loc (V d c s : Thread nD τ))) (ftid : Buf (Elt F) (tid.view.loc (V d c s : Thread nD τ)))
    (G f : Buf (Elt F) (out.view.loc (V d c s : Thread nD τ))) (i0 : Buf (Elt F) (ip0.view.loc (V d c s : Thread nD τ))) (i1 : Buf (Elt F) (ip1.view.loc (V d c s : Thread nD τ)))
    (i2 : Buf (Elt F) (it0.view.loc (V d c s : Thread nD τ))) (i3 : Buf (Elt F) (it1.view.loc (V d c s : Thread nD τ)))
    (r0 : Buf (Elt F) (rp0.view.loc (V d c s : Thread nD τ))) (r1 : Buf (Elt F) (rp1.view.loc (V d c s : Thread nD τ))) (r2 : Buf (Elt F) (rt0.view.loc (V d c s : Thread nD τ))) (r3 : Buf (Elt F) (rt1.view.loc (V d c s : Thread nD τ)))
    (hG3 : Gathered ((outPart out o3 h3).view.read (Elt F) G) ((table pol).view.read (Elt F) fpol) ((idPart pid o1 h1).view.read (Elt F) fpid))
    (hG4 : Gathered ((outPart out o4 h4).view.read (Elt F) G) ((table pol).view.read (Elt F) fpol) ((idPart pid o2 h2).view.read (Elt F) fpid))
    (hG5 : Gathered ((outPart out o5 h5).view.read (Elt F) G) ((table tick).view.read (Elt F) ftick) ((idPart tid o1 h1).view.read (Elt F) ftid))
    (hG6 : Gathered ((outPart out o6 h6).view.read (Elt F) G) ((table tick).view.read (Elt F) ftick) ((idPart tid o2 h2).view.read (Elt F) ftid))
    (hp : ∀ j, (pid.view.read (Elt F) fpid j).toNat < 100000) (ht : ∀ j, (tid.view.read (Elt F) ftid j).toNat < 100000) :
    (iprop(Transfers.MayWaits (V d c s : Thread nD τ) (default : HIx 2) O
        ∗ ((idPart pid o1 h1).view.loc (V d c s : Thread nD τ) ↦[(idPart pid o1 h1).view.set]{q1} fpid) ∗ ((idPart pid o2 h2).view.loc (V d c s : Thread nD τ) ↦[(idPart pid o2 h2).view.set]{q2} fpid)
        ∗ ((idPart tid o1 h1).view.loc (V d c s : Thread nD τ) ↦[(idPart tid o1 h1).view.set]{q1} ftid) ∗ ((idPart tid o2 h2).view.loc (V d c s : Thread nD τ) ↦[(idPart tid o2 h2).view.set]{q2} ftid)
        ∗ ((table pol).view.loc (V d c s : Thread nD τ) ↦[(table pol).view.set]{q1} fpol) ∗ ((table pol).view.loc (V d c s : Thread nD τ) ↦[(table pol).view.set]{q2} fpol)
        ∗ ((table tick).view.loc (V d c s : Thread nD τ) ↦[(table tick).view.set]{q1} ftick) ∗ ((table tick).view.loc (V d c s : Thread nD τ) ↦[(table tick).view.set]{q2} ftick)
        ∗ ((outPart out o3 h3).view.loc (V d c s : Thread nD τ) ↦[(outPart out o3 h3).view.set]{fullShare} f) ∗ ((outPart out o4 h4).view.loc (V d c s : Thread nD τ) ↦[(outPart out o4 h4).view.set]{fullShare} f)
        ∗ ((outPart out o5 h5).view.loc (V d c s : Thread nD τ) ↦[(outPart out o5 h5).view.set]{fullShare} f) ∗ ((outPart out o6 h6).view.loc (V d c s : Thread nD τ) ↦[(outPart out o6 h6).view.set]{fullShare} f)
        ∗ (ip0.view.loc (V d c s : Thread nD τ) ↦[ip0.view.set]{fullShare} i0) ∗ (ip1.view.loc (V d c s : Thread nD τ) ↦[ip1.view.set]{fullShare} i1)
        ∗ (it0.view.loc (V d c s : Thread nD τ) ↦[it0.view.set]{fullShare} i2) ∗ (it1.view.loc (V d c s : Thread nD τ) ↦[it1.view.set]{fullShare} i3)
        ∗ (rp0.view.loc (V d c s : Thread nD τ) ↦[rp0.view.set]{fullShare} r0) ∗ (rp1.view.loc (V d c s : Thread nD τ) ↦[rp1.view.set]{fullShare} r1)
        ∗ (rt0.view.loc (V d c s : Thread nD τ) ↦[rt0.view.set]{fullShare} r2) ∗ (rt1.view.loc (V d c s : Thread nD τ) ↦[rt1.view.set]{fullShare} r3)
        ∗ semVal ((V d c s : Thread nD τ), .dma l0.sem) 0 ∗ semVal ((V d c s : Thread nD τ), .dma l1.sem) 0 ∗ semVal ((V d c s : Thread nD τ), .dma l2.sem) 0 ∗ semVal ((V d c s : Thread nD τ), .dma l3.sem) 0
        ∗ semVal ((V d c s : Thread nD τ), .dma s0.sem) 0 ∗ semVal ((V d c s : Thread nD τ), .dma s1.sem) 0 ∗ semVal ((V d c s : Thread nD τ), .dma s2.sem) 0 ∗ semVal ((V d c s : Thread nD τ), .dma s3.sem) 0
        ∗ semVal ((V d c s : Thread nD τ), .dma w0.sem) 0 ∗ semVal ((V d c s : Thread nD τ), .dma w1.sem) 0 ∗ semVal ((V d c s : Thread nD τ), .dma w2.sem) 0 ∗ semVal ((V d c s : Thread nD τ), .dma w3.sem) 0
        ∗ owes (V d c s : Thread nD τ) O W) : sProp 𝕄)
      ⊢ wp frame (wpE (defs₀ (F := F)) 𝒱₀ (V d c s : Thread nD τ) none) Set.univ
          (task c s o1 o2 h1 h2 o3 o4 o5 o6 h3 h4 h5 h6 pol tick pid tid out ip0 hip0 ip1 hip1 it0 hit0 it1 hit1 rp0 hrp0 rp1 hrp1 rt0 hrt0 rt1 hrt1
            l0 l1 l2 l3 s0 s1 s2 s3 w0 w1 w2 w3)
          fun _ => (iprop(((idPart pid o1 h1).view.loc (V d c s : Thread nD τ) ↦[(idPart pid o1 h1).view.set]{q1} fpid) ∗ ((idPart pid o2 h2).view.loc (V d c s : Thread nD τ) ↦[(idPart pid o2 h2).view.set]{q2} fpid)
        ∗ ((idPart tid o1 h1).view.loc (V d c s : Thread nD τ) ↦[(idPart tid o1 h1).view.set]{q1} ftid) ∗ ((idPart tid o2 h2).view.loc (V d c s : Thread nD τ) ↦[(idPart tid o2 h2).view.set]{q2} ftid)
        ∗ ((table pol).view.loc (V d c s : Thread nD τ) ↦[(table pol).view.set]{q1} fpol) ∗ ((table pol).view.loc (V d c s : Thread nD τ) ↦[(table pol).view.set]{q2} fpol)
        ∗ ((table tick).view.loc (V d c s : Thread nD τ) ↦[(table tick).view.set]{q1} ftick) ∗ ((table tick).view.loc (V d c s : Thread nD τ) ↦[(table tick).view.set]{q2} ftick)
        ∗ ((outPart out o3 h3).view.loc (V d c s : Thread nD τ) ↦[(outPart out o3 h3).view.set]{fullShare} G) ∗ ((outPart out o4 h4).view.loc (V d c s : Thread nD τ) ↦[(outPart out o4 h4).view.set]{fullShare} G)
        ∗ ((outPart out o5 h5).view.loc (V d c s : Thread nD τ) ↦[(outPart out o5 h5).view.set]{fullShare} G) ∗ ((outPart out o6 h6).view.loc (V d c s : Thread nD τ) ↦[(outPart out o6 h6).view.set]{fullShare} G)
        ∗ (∃ w, ip0.view.loc (V d c s : Thread nD τ) ↦[ip0.view.set]{fullShare} w) ∗ (∃ w, ip1.view.loc (V d c s : Thread nD τ) ↦[ip1.view.set]{fullShare} w)
        ∗ (∃ w, it0.view.loc (V d c s : Thread nD τ) ↦[it0.view.set]{fullShare} w) ∗ (∃ w, it1.view.loc (V d c s : Thread nD τ) ↦[it1.view.set]{fullShare} w)
        ∗ (∃ w, rp0.view.loc (V d c s : Thread nD τ) ↦[rp0.view.set]{fullShare} w) ∗ (∃ w, rp1.view.loc (V d c s : Thread nD τ) ↦[rp1.view.set]{fullShare} w)
        ∗ (∃ w, rt0.view.loc (V d c s : Thread nD τ) ↦[rt0.view.set]{fullShare} w) ∗ (∃ w, rt1.view.loc (V d c s : Thread nD τ) ↦[rt1.view.set]{fullShare} w)
        ∗ semVal ((V d c s : Thread nD τ), .dma l0.sem) 0 ∗ semVal ((V d c s : Thread nD τ), .dma l1.sem) 0 ∗ semVal ((V d c s : Thread nD τ), .dma l2.sem) 0 ∗ semVal ((V d c s : Thread nD τ), .dma l3.sem) 0
        ∗ semVal ((V d c s : Thread nD τ), .dma s0.sem) 0 ∗ semVal ((V d c s : Thread nD τ), .dma s1.sem) 0 ∗ semVal ((V d c s : Thread nD τ), .dma s2.sem) 0 ∗ semVal ((V d c s : Thread nD τ), .dma s3.sem) 0
        ∗ semVal ((V d c s : Thread nD τ), .dma w0.sem) 0 ∗ semVal ((V d c s : Thread nD τ), .dma w1.sem) 0 ∗ semVal ((V d c s : Thread nD τ), .dma w2.sem) 0 ∗ semVal ((V d c s : Thread nD τ), .dma w3.sem) 0
        ∗ ∃ W', ⌜∀ p ∈ W', p ∈ W ∨ p.2 = none⌝ ∗ owes (V d c s : Thread nD τ) O W') : sProp 𝕄) := by
  unfold task taskHead taskTail
  have hin0 := fetched_lt pid fpid o1 h1 hp ip0
  have hin1 := fetched_lt pid fpid o2 h2 hp ip1
  have hin2 := fetched_lt tid ftid o1 h1 ht it0
  have hin3 := fetched_lt tid ftid o2 h2 ht it1
  iintro ⟨#Hmw, Hi0, Hi1, Hi2, Hi3, Hpa, Hpb, Hta, Htb, Ho3, Ho4, Ho5, Ho6, Hip0, Hip1, Hit0, Hit1, Hrp0, Hrp1, Hrt0, Hrt1, Hl0, Hl1, Hl2, Hl3, Hs0, Hs1, Hs2, Hs3, Hw0, Hw1, Hw2, Hw3, HO⟩
  sl_exec
  sl_step
  isplitl [Hi0]; · iexact Hi0
  isplitl [Hi1]; · iexact Hi1
  isplitl [Hi2]; · iexact Hi2
  isplitl [Hi3]; · iexact Hi3
  isplitl [Hpa]; · iexact Hpa
  isplitl [Hpb]; · iexact Hpb
  isplitl [Hta]; · iexact Hta
  isplitl [Htb]; · iexact Htb
  isplitl [Ho3]
  · iapply (Entails.of_eq (pointsTo_congr (written_eq (outPart out o3 h3) f G rp0 r0 _ ip0 ip0.view.junk _ (hin0 _) hG3))); iexact Ho3
  isplitl [Ho4]
  · iapply (Entails.of_eq (pointsTo_congr (written_eq (outPart out o4 h4) f G rp1 r1 _ ip1 ip1.view.junk _ (hin1 _) hG4))); iexact Ho4
  isplitl [Ho5]
  · iapply (Entails.of_eq (pointsTo_congr (written_eq (outPart out o5 h5) f G rt0 r2 _ it0 it0.view.junk _ (hin2 _) hG5))); iexact Ho5
  isplitl [Ho6]
  · iapply (Entails.of_eq (pointsTo_congr (written_eq (outPart out o6 h6) f G rt1 r3 _ it1 it1.view.junk _ (hin3 _) hG6))); iexact Ho6
  isplitl [Hip0]; · iexists _; iexact Hip0
  isplitl [Hip1]; · iexists _; iexact Hip1
  isplitl [Hit0]; · iexists _; iexact Hit0
  isplitl [Hit1]; · iexists _; iexact Hit1
  isplitl [Hrp0]; · iexists _; iexact Hrp0
  isplitl [Hrp1]; · iexists _; iexact Hrp1
  isplitl [Hrt0]; · iexists _; iexact Hrt0
  isplitl [Hrt1]; · iexists _; iexact Hrt1
  isplitl [Hl0]; · iexact Hl0
  isplitl [Hl1]; · iexact Hl1
  isplitl [Hl2]; · iexact Hl2
  isplitl [Hl3]; · iexact Hl3
  isplitl [Hs0]; · iexact Hs0
  isplitl [Hs1]; · iexact Hs1
  isplitl [Hs2]; · iexact Hs2
  isplitl [Hs3]; · iexact Hs3
  isplitl [Hw0]; · iexact Hw0
  isplitl [Hw1]; · iexact Hw1
  isplitl [Hw2]; · iexact Hw2
  isplitl [Hw3]; · iexact Hw3
  iexists _; isplitr
  swap; · iexact HO
  ipureintro; intro p hp
  simp only [Finset.mem_insert] at hp
  rcases hp with h | h | h | h | h | h | h | h | h | h | h | h | h
  all_goals first | exact .inl h | exact .inr (h ▸ rfl)

end Task
end Cert.Proof
end
-- ==== Proof.Rows.lean ====
/-
  What the gathered array holds: row `r` of a call's array is the policy row of id `base + r` beside the ticker row of
  id `base + r`; and that the four square blocks a task writes make up its 256 rows.
-/
module

public import proofs.«01_k».proof.Proof.TaskRun

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig (HIx 2) (Elt F) ℕ UU ℕ

/-- The table's element at row `r`, column `k`. -/
def tabAt {α : Type} (t : S100000x128.Idx → α) (r k : ℕ) : α :=
  t (fun | 0 => ⟨r % 100000, Nat.mod_lt _ (by decide)⟩ | 1 => ⟨k % 128, Nat.mod_lt _ (by decide)⟩)

/-- Entry `k` of a list of ids, as a number. -/
def idAt (ids : S16384.Idx → BitVec 32) (k : ℕ) : ℕ := (ids (fun | 0 => ⟨k % 16384, Nat.mod_lt _ (by decide)⟩)).toNat

/-- Row `r`, column `k` of the two tables' rows side by side for the ids from `base` on. -/
def rowsOf {α : Type} (pol tick : S100000x128.Idx → α) (pid tid : S16384.Idx → BitVec 32) (base : ℕ) (x : S8192x256.Idx) : α :=
  if (x 1).val < 128 then tabAt pol (idAt pid (base + (x 0).val)) (x 1).val else tabAt tick (idAt tid (base + (x 0).val)) ((x 1).val - 128)

theorem tabAt_eq {α : Type} (t : S100000x128.Idx → α) (r k : ℕ) (y : S100000x128.Idx) (h0 : (y 0).val = r) (h1 : (y 1).val = k) : tabAt t r k = t y := by
  unfold tabAt; congr 1
  have i0 : (y 0).val < 100000 := (y 0).isLt
  have i1 : (y 1).val < 128 := (y 1).isLt
  funext a; match a with
  | 0 => apply Fin.ext; show r % 100000 = _; omega
  | 1 => apply Fin.ext; show k % 128 = _; omega

theorem idAt_eq (ids : S16384.Idx → BitVec 32) (k : ℕ) (y : S16384.Idx) (h : (y 0).val = k) : idAt ids k = (ids y).toNat := by
  unfold idAt; congr 2
  have i0 : (y 0).val < 16384 := (y 0).isLt
  funext a; match a with
  | 0 => apply Fin.ext; show k % 16384 = _; omega

/-- The elements of `w`'s 256 rows. -/
def blk (w : ℕ) : Finset S8192x256.Idx := Finset.univ.filter fun x => (x 0).val / 256 = w

section Blocks

variable (out : Memref sig .scVector .hbm S8192x256 .f32)

/-- What a slice of ids reads at an index. -/
theorem read_idPart (ids : Memref sig .scVector .hbm S16384 .i32) (f : ids.view.ty.Contents (Elt F)) (o : Fin 1 → Nat) (h : ∀ a, o a + S128.size a ≤ S16384.size a) (z : S128.Idx) :
    (idPart ids o h).view.read (Elt F) f z = ids.view.read (Elt F) f ((Rect.unit (s := S16384) o S128.size h).emb z) := rfl

/-- Columns below 128 of a block of a task's rows hold the policy rows its ids name; -/
theorem gathered_pol (pol tick : S100000x128.Idx → Elt F .f32) (pid tid : S16384.Idx → BitVec 32) (base : ℕ)
    (G : out.view.ty.Contents (Elt F)) (hG : out.view.read (Elt F) G = rowsOf pol tick pid tid base)
    (o : Fin 2 → Nat) (h : ∀ a, o a + S128x128.size a ≤ S8192x256.size a) (o' : Fin 1 → Nat) (h' : ∀ a, o' a + S128.size a ≤ S16384.size a)
    (ho : o' 0 = base + o 0) (hc : o 1 = 0)
    (t : Memref sig .scVector .hbm S100000x128 .f32) (ft : t.view.ty.Contents (Elt F)) (ht : t.view.read (Elt F) ft = pol)
    (ids : Memref sig .scVector .hbm S16384 .i32) (fi : ids.view.ty.Contents (Elt F)) (hi : ids.view.read (Elt F) fi = pid) :
    Gathered ((outPart out o h).view.read (Elt F) G) ((table t).view.read (Elt F) ft) ((idPart ids o' h').view.read (Elt F) fi) := by
  intro x z y hz hy hy'
  have e0 : ((Rect.unit (s := S8192x256) o S128x128.size h).emb x 0).val = o 0 + (x 0).val := by rw [Rect.emb_apply]; simp
  have e1 : ((Rect.unit (s := S8192x256) o S128x128.size h).emb x 1).val = o 1 + (x 1).val := by rw [Rect.emb_apply]; simp
  have ey (a : Fin 2) : ((Rect.unit (s := S100000x128) ![0, 0] S100000x128.size inb_S100000x128_S100000x128_0_0).emb y a).val = (y a).val := by
    rw [Rect.emb_apply]; match a with | 0 => simp | 1 => simp
  have ez : ((Rect.unit (s := S16384) o' S128.size h').emb z 0).val = o' 0 + (z 0).val := by rw [Rect.emb_apply]; simp
  have hx1 : (x 1).val < 128 := (x 1).isLt
  show out.view.read (Elt F) G ((Rect.unit (s := S8192x256) o S128x128.size h).emb x) = t.view.read (Elt F) ft ((Rect.unit (s := S100000x128) ![0, 0] S100000x128.size inb_S100000x128_S100000x128_0_0).emb y)
  rw [hG, ht, rowsOf, if_pos (by omega), idAt_eq pid _ ((Rect.unit (s := S16384) o' S128.size h').emb z) (by omega)]
  refine tabAt_eq _ _ _ _ ?_ ?_
  · rw [ey, hy, read_idPart, hi]
  · rw [ey, hy', e1, hc, Nat.zero_add]

/-- the others the ticker rows. -/
theorem gathered_tick (pol tick : S100000x128.Idx → Elt F .f32) (pid tid : S16384.Idx → BitVec 32) (base : ℕ)
    (G : out.view.ty.Contents (Elt F)) (hG : out.view.read (Elt F) G = rowsOf pol tick pid tid base)
    (o : Fin 2 → Nat) (h : ∀ a, o a + S128x128.size a ≤ S8192x256.size a) (o' : Fin 1 → Nat) (h' : ∀ a, o' a + S128.size a ≤ S16384.size a)
    (ho : o' 0 = base + o 0) (hc : o 1 = 128)
    (t : Memref sig .scVector .hbm S100000x128 .f32) (ft : t.view.ty.Contents (Elt F)) (ht : t.view.read (Elt F) ft = tick)
    (ids : Memref sig .scVector .hbm S16384 .i32) (fi : ids.view.ty.Contents (Elt F)) (hi : ids.view.read (Elt F) fi = tid) :
    Gathered ((outPart out o h).view.read (Elt F) G) ((table t).view.read (Elt F) ft) ((idPart ids o' h').view.read (Elt F) fi) := by
  intro x z y hz hy hy'
  have e0 : ((Rect.unit (s := S8192x256) o S128x128.size h).emb x 0).val = o 0 + (x 0).val := by rw [Rect.emb_apply]; simp
  have e1 : ((Rect.unit (s := S8192x256) o S128x128.size h).emb x 1).val = o 1 + (x 1).val := by rw [Rect.emb_apply]; simp
  have ey (a : Fin 2) : ((Rect.unit (s := S100000x128) ![0, 0] S100000x128.size inb_S100000x128_S100000x128_0_0).emb y a).val = (y a).val := by
    rw [Rect.emb_apply]; match a with | 0 => simp | 1 => simp
  have ez : ((Rect.unit (s := S16384) o' S128.size h').emb z 0).val = o' 0 + (z 0).val := by rw [Rect.emb_apply]; simp
  show out.view.read (Elt F) G ((Rect.unit (s := S8192x256) o S128x128.size h).emb x) = t.view.read (Elt F) ft ((Rect.unit (s := S100000x128) ![0, 0] S100000x128.size inb_S100000x128_S100000x128_0_0).emb y)
  rw [hG, ht, rowsOf, if_neg (by omega), idAt_eq tid _ ((Rect.unit (s := S16384) o' S128.size h').emb z) (by omega)]
  refine tabAt_eq _ _ _ _ ?_ ?_
  · rw [ey, hy, read_idPart, hi]
  · rw [ey, hy', e1, hc]; omega

end Blocks

/-- A square block's elements. -/
theorem mem_square {o : Fin 2 → Nat} {h : ∀ a, o a + S128x128.size a ≤ S8192x256.size a} {x : S8192x256.Idx} {r c : ℕ} (ho : o = ![r, c]) :
    x ∈ (Rect.unit (s := S8192x256) o S128x128.size h).set ↔ (r ≤ (x 0).val ∧ (x 0).val < r + 128) ∧ (c ≤ (x 1).val ∧ (x 1).val < c + 128) := by
  subst ho
  rw [Rect.mem_set_unit, Fin.forall_fin_two]; rfl

/-- A task's rows, held, are its four square blocks, held. -/
theorem pts_blocks (d : Dev nD) (c : Fin τ.nSC) (s : Fin τ.nSub) (out : Memref sig .scVector .hbm S8192x256 .f32) (w : ℕ)
    (o3 o4 o5 o6 : Fin 2 → Nat) (h3 : ∀ a, o3 a + S128x128.size a ≤ S8192x256.size a) (h4 : ∀ a, o4 a + S128x128.size a ≤ S8192x256.size a)
    (h5 : ∀ a, o5 a + S128x128.size a ≤ S8192x256.size a) (h6 : ∀ a, o6 a + S128x128.size a ≤ S8192x256.size a)
    (e3 : o3 = ![256 * w, 0]) (e4 : o4 = ![256 * w + 128, 0]) (e5 : o5 = ![256 * w, 128]) (e6 : o6 = ![256 * w + 128, 128])
    (f : Buf (Elt F) (out.view.loc (V d c s))) :
    (out.view.loc (V d c s) ↦[(blk w).map out.view.emb]{fullShare} f : sProp 𝕄)
      = iprop(((outPart out o3 h3).view.loc (V d c s) ↦[(outPart out o3 h3).view.set]{fullShare} f) ∗ ((outPart out o4 h4).view.loc (V d c s) ↦[(outPart out o4 h4).view.set]{fullShare} f)
        ∗ ((outPart out o5 h5).view.loc (V d c s) ↦[(outPart out o5 h5).view.set]{fullShare} f) ∗ ((outPart out o6 h6).view.loc (V d c s) ↦[(outPart out o6 h6).view.set]{fullShare} f)) := by
  let R : Fin 4 → Finset S8192x256.Idx := ![(Rect.unit (s := S8192x256) o3 S128x128.size h3).set, (Rect.unit (s := S8192x256) o4 S128x128.size h4).set,
    (Rect.unit (s := S8192x256) o5 S128x128.size h5).set, (Rect.unit (s := S8192x256) o6 S128x128.size h6).set]
  have hR (j : Fin 4) (x : S8192x256.Idx) : x ∈ R j ↔ (x 0).val / 128 = 2 * w + j.val % 2 ∧ (x 1).val / 128 = j.val / 2 := by
    have i1 : (x 1).val < 256 := (x 1).isLt
    match j with
    | 0 => show x ∈ (Rect.unit (s := S8192x256) o3 S128x128.size h3).set ↔ _; rw [mem_square e3]; simp; omega
    | 1 => show x ∈ (Rect.unit (s := S8192x256) o4 S128x128.size h4).set ↔ _; rw [mem_square e4]; simp; omega
    | 2 => show x ∈ (Rect.unit (s := S8192x256) o5 S128x128.size h5).set ↔ _; rw [mem_square e5]; simp; omega
    | 3 => show x ∈ (Rect.unit (s := S8192x256) o6 S128x128.size h6).set ↔ _; rw [mem_square e6]; simp; omega
  have hcov : (blk w).map out.view.emb = Finset.univ.biUnion fun j : Fin 4 => (R j).map out.view.emb := by
    ext i
    simp only [Finset.mem_map, Finset.mem_biUnion, Finset.mem_univ, true_and]
    constructor
    · rintro ⟨x, hx, rfl⟩
      have hx' : (x 0).val / 256 = w := (Finset.mem_filter.mp hx).2
      have i1 : (x 1).val < 256 := (x 1).isLt
      refine ⟨⟨(x 0).val / 128 % 2 + 2 * ((x 1).val / 128), by omega⟩, x, (hR _ x).mpr ⟨?_, ?_⟩, rfl⟩ <;> simp only <;> omega
    · rintro ⟨j, x, hx, rfl⟩
      have := (hR j x).mp hx
      exact ⟨x, Finset.mem_filter.mpr ⟨Finset.mem_univ _, by omega⟩, rfl⟩
  have hdis : ∀ j ∈ (Finset.univ : Finset (Fin 4)), ∀ j' ∈ (Finset.univ : Finset (Fin 4)), j ≠ j' → Disjoint ((R j).map out.view.emb) ((R j').map out.view.emb) := by
    intro j _ j' _ hj
    rw [Finset.disjoint_map, Finset.disjoint_left]
    intro x h1 h2
    have h1 := (hR j x).mp h1; have h2 := (hR j' x).mp h2
    exact hj (Fin.ext (by omega))
  rw [hcov, pointsTo_biUnion _ _ hdis, Idealize.ShloMosaic.bigSep_univ_succ, Idealize.ShloMosaic.bigSep_univ_succ, Idealize.ShloMosaic.bigSep_univ_succ,
    bigSep_univ_of_subsingleton (0 : Fin 1)]
  simp only [outPart, Memref.view_slice, View.set_slice]
  rfl

end Cert.Proof

end
-- ==== Proof.Pay.lean ====
/-
  What the two calls' handshakes carry: each task a share of the two id lists and the two tables, and its own 256 rows
  of the call's array, which come back holding the gathered rows.
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

variable (m : (ℓ : Loc nD τ sig) → Buf (Elt F) ℓ)

/-- A main array's place on the device. -/
abbrev at_ (d : Dev nD) (b : Ref sig .tc) : Loc nD τ sig := (d.tc : Thread nD τ).loc b

/-- Half `b`'s gathered rows of the launch memory's tables and ids. -/
def gat (d : Dev nD) (base : ℕ) : S8192x256.Idx → Elt F .f32 :=
  rowsOf (α := Elt F .f32) (m (at_ d main_arg2)) (m (at_ d main_arg3)) (m (at_ d main_arg0)) (m (at_ d main_arg1)) base

/-- What the launch memory must satisfy: every id is a row of the tables. -/
def PreOK : Prop := ∀ (d : Dev nD) (j : S16384.Idx), ((m (at_ d main_arg0) : S16384.Idx → BitVec 32) j).toNat < 100000 ∧ ((m (at_ d main_arg1) : S16384.Idx → BitVec 32) j).toNat < 100000

/-- The ids and the tables at a share. -/
def inPts (d : Dev nD) (q : PosShare TreeShare) : sProp 𝕄 :=
  iprop((at_ d main_arg0 ↦{q} m (at_ d main_arg0)) ∗ (at_ d main_arg1 ↦{q} m (at_ d main_arg1)) ∗ (at_ d main_arg2 ↦{q} m (at_ d main_arg2)) ∗ (at_ d main_arg3 ↦{q} m (at_ d main_arg3)))

/-- Elements of a call's array at given contents. -/
def outPts (q : Fin 2) (d : Dev nD) (I : Finset S8192x256.Idx) (f : S8192x256.Idx → Elt F .f32) : sProp 𝕄 := match q with
  | 0 => at_ d main_v19 ↦[I]{fullShare} f
  | 1 => at_ d main_v20 ↦[I]{fullShare} f

/-- A call's array at the launch. -/
def outOld (q : Fin 2) (d : Dev nD) : S8192x256.Idx → Elt F .f32 := match q with
  | 0 => m (at_ d main_v19)
  | 1 => m (at_ d main_v20)
/-- A call's array after it. -/
def outNew (q : Fin 2) (d : Dev nD) : S8192x256.Idx → Elt F .f32 := gat m d (8192 * q.val)

/-- The share of a SparseCore and of one of its tasks. -/
def coreShare (c : Fin 2) : PosShare TreeShare := pieceOf fullShare 2 (by decide) c
def taskShare (c : Fin 2) (i : Fin 16) : PosShare TreeShare := pieceOf (coreShare c) 16 (by decide) i

/-- The rows a SparseCore's tasks write: the 256-row blocks of its parity. -/
def coreBlk (c : ℕ) : Finset S8192x256.Idx := Finset.univ.filter fun x => (x 0).val / 256 % 2 = c

theorem nCore_eq (q : Fin 2) : (K (F := F)).nCore q = 2 := by match q with | 0 => rfl | 1 => rfl
theorem nSub_eq (q : Fin 2) : (K (F := F)).nSub q = 16 := by match q with | 0 => rfl | 1 => rfl

/-- What the two calls' signals carry. -/
def P : (K (F := F)).Pay (nD := nD) (Val := Elt F) (Name := ℕ) (U := UU) where
  st q d c := iprop(inPts m d (coreShare (c.cast (nCore_eq q))) ∗ outPts q d (coreBlk c.val) (outOld m q d))
  dn q d c := iprop(inPts m d (coreShare (c.cast (nCore_eq q))) ∗ outPts q d (coreBlk c.val) (outNew m q d))
  go q d c i := iprop(inPts m d (taskShare (c.cast (nCore_eq q)) (i.cast (nSub_eq q))) ∗ outPts q d (blk (2 * i.val + c.val)) (outOld m q d))
  td q d c i := iprop(inPts m d (taskShare (c.cast (nCore_eq q)) (i.cast (nSub_eq q))) ∗ outPts q d (blk (2 * i.val + c.val)) (outNew m q d))
  x := fun _ _ => iprop(emp)

instance inPts_storable (d : Dev nD) (q : PosShare TreeShare) : BI.Storable (upEmb : UEmb _ 𝕄) (inPts m d q) := by unfold inPts; infer_instance
instance outPts_storable (q : Fin 2) (d : Dev nD) (I : Finset S8192x256.Idx) (f : S8192x256.Idx → Elt F .f32) : BI.Storable (upEmb : UEmb _ 𝕄) (outPts q d I f) := by
  match q with
  | 0 => unfold outPts; infer_instance
  | 1 => unfold outPts; infer_instance

instance P_storable : (P (F := F) m).IsStorable where
  st q d c := by unfold P; infer_instance
  dn q d c := by unfold P; infer_instance
  go q d c i := by unfold P; infer_instance
  td q d c i := by unfold P; infer_instance

/-- Inputs at a share are inputs at its pieces. -/
theorem inPts_pieces (d : Dev nD) (q : PosShare TreeShare) (n : ℕ) (hn : 0 < n) :
    (inPts m d q : sProp 𝕄) = bigSep Finset.univ fun i : Fin n => inPts m d (pieceOf q n hn i) := by
  unfold inPts
  rw [bigSep_sep', bigSep_sep', bigSep_sep', pointsTo_piecesOf (I := Finset.univ) (f := m (at_ d main_arg0)) hn q, pointsTo_piecesOf (I := Finset.univ) (f := m (at_ d main_arg1)) hn q,
    pointsTo_piecesOf (I := Finset.univ) (f := m (at_ d main_arg2)) hn q, pointsTo_piecesOf (I := Finset.univ) (f := m (at_ d main_arg3)) hn q]

/-- Elements of a call's array split into a disjoint family are the family's. -/
theorem outPts_biUnion (q : Fin 2) (d : Dev nD) {n : ℕ} (I : Finset S8192x256.Idx) (J : Fin n → Finset S8192x256.Idx) (hI : I = Finset.univ.biUnion J)
    (hJ : ∀ i ∈ (Finset.univ : Finset (Fin n)), ∀ j ∈ (Finset.univ : Finset (Fin n)), i ≠ j → Disjoint (J i) (J j)) (f : S8192x256.Idx → Elt F .f32) :
    (outPts q d I f : sProp 𝕄) = bigSep Finset.univ fun i => outPts q d (J i) f := by
  subst hI
  match q with
  | 0 => exact pointsTo_biUnion (ℓ := at_ d main_v19) Finset.univ J hJ
  | 1 => exact pointsTo_biUnion (ℓ := at_ d main_v20) Finset.univ J hJ

theorem coreBlk_eq (c : Fin 2) : coreBlk c.val = Finset.univ.biUnion fun i : Fin 16 => blk (2 * i.val + c.val) := by
  ext x
  have h0 : (x 0).val < 8192 := (x 0).isLt
  have hc := c.isLt
  simp only [coreBlk, blk, Finset.mem_filter, Finset.mem_univ, true_and, Finset.mem_biUnion]
  constructor
  · intro h; exact ⟨⟨(x 0).val / 512, by omega⟩, by simp only; omega⟩
  · rintro ⟨i, hi⟩; omega

theorem univ_eq_cores : (Finset.univ : Finset S8192x256.Idx) = Finset.univ.biUnion fun c : Fin 2 => coreBlk c.val := by
  ext x
  simp only [coreBlk, Finset.mem_filter, Finset.mem_univ, true_and, Finset.mem_biUnion, true_iff]
  exact ⟨⟨(x 0).val / 256 % 2, by omega⟩, rfl⟩

theorem outPts_core (q : Fin 2) (d : Dev nD) (c : Fin 2) (f : S8192x256.Idx → Elt F .f32) :
    (outPts q d (coreBlk c.val) f : sProp 𝕄) = bigSep Finset.univ fun i : Fin 16 => outPts q d (blk (2 * i.val + c.val)) f :=
  outPts_biUnion q d _ _ (coreBlk_eq c) (fun i _ j _ h => by
    rw [Finset.disjoint_left]; intro x h1 h2
    have h1 := (Finset.mem_filter.mp h1).2; have h2 := (Finset.mem_filter.mp h2).2
    exact h (Fin.ext (by omega))) f

theorem outPts_univ (q : Fin 2) (d : Dev nD) (f : S8192x256.Idx → Elt F .f32) :
    (outPts q d Finset.univ f : sProp 𝕄) = bigSep Finset.univ fun c : Fin 2 => outPts q d (coreBlk c.val) f :=
  outPts_biUnion q d _ _ univ_eq_cores (fun i _ j _ h => by
    rw [Finset.disjoint_left]; intro x h1 h2
    have h1 := (Finset.mem_filter.mp h1).2; have h2 := (Finset.mem_filter.mp h2).2
    exact h (Fin.ext (by omega))) f

/-- A conjunction over a call's tasks, or its SparseCores, re-indexed by their number. -/
theorem bigSep_recount {n k : ℕ} (h : n = k) (Φ : Fin n → sProp 𝕄) : bigSep Finset.univ Φ = bigSep Finset.univ fun i : Fin k => Φ (i.cast h.symm) := by
  subst h; rfl

/-- A SparseCore's operands are its tasks' together, and its results likewise. -/
theorem core_eq (q : Fin 2) (d : Dev nD) (c : Fin ((K (F := F)).nCore q)) (f : S8192x256.Idx → Elt F .f32) :
    (iprop(inPts m d (coreShare (c.cast (nCore_eq q))) ∗ outPts q d (coreBlk c.val) f) : sProp 𝕄)
      = bigSep Finset.univ fun i : Fin ((K (F := F)).nSub q) => iprop(inPts m d (taskShare (c.cast (nCore_eq q)) (i.cast (nSub_eq q))) ∗ outPts q d (blk (2 * i.val + c.val)) f) := by
  rw [bigSep_recount (nSub_eq q), bigSep_sep']
  congr 1
  · exact inPts_pieces m d _ 16 (by decide)
  · exact outPts_core q d (c.cast (nCore_eq q)) f

theorem vecSplit (q : Fin 2) : (K (F := F)).VecSplit' (P m) q := by
  intro d c
  show iprop(inPts m d (coreShare (c.cast (nCore_eq q))) ∗ outPts q d (coreBlk c.val) (outOld m q d)) ⊢ |={Set.univ}=> iprop(
      (bigSep Finset.univ fun i : Fin ((K (F := F)).nSub q) => iprop(inPts m d (taskShare (c.cast (nCore_eq q)) (i.cast (nSub_eq q))) ∗ outPts q d (blk (2 * i.val + c.val)) (outOld m q d)))
      ∗ ((bigSep Finset.univ fun i : Fin ((K (F := F)).nSub q) => iprop(inPts m d (taskShare (c.cast (nCore_eq q)) (i.cast (nSub_eq q))) ∗ outPts q d (blk (2 * i.val + c.val)) (outNew m q d)))
          -∗ iprop(inPts m d (coreShare (c.cast (nCore_eq q))) ∗ outPts q d (coreBlk c.val) (outNew m q d))))
  rw [core_eq, core_eq]
  iintro H; imodintro
  isplitl [H]; · iexact H
  iintro H; iexact H

/-- The call's operands together: the inputs and its array whole, before and after. -/
theorem call_eq (q : Fin 2) (d : Dev nD) (f : S8192x256.Idx → Elt F .f32) :
    (bigSep Finset.univ fun c : Fin ((K (F := F)).nCore q) => (iprop(inPts m d (coreShare (c.cast (nCore_eq q))) ∗ outPts q d (coreBlk c.val) f) : sProp 𝕄))
      = iprop(inPts m d fullShare ∗ outPts q d Finset.univ f) := by
  rw [bigSep_recount (nCore_eq q), bigSep_sep', outPts_univ, inPts_pieces m d fullShare 2 (by decide)]
  rfl

end Cert.Proof

end
-- ==== Proof.Tile.lean ====
/-
  A task's obligation: from its share of the inputs, its rows of the call's array, its scratch and its semaphores, the
  task runs and leaves its rows holding the gathered rows.
-/
module

public import proofs.«01_k».proof.Proof.Pay

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

/-- A buffer held at a share is two parts of it, each at half the share, and the rest. -/
theorem pts_two {ℓ : Loc nD τ sig} (q : PosShare TreeShare) (f : Buf (Elt F) ℓ) (I J : Finset (Idx ℓ)) :
    (ℓ ↦{q} f : sProp 𝕄) = iprop((ℓ ↦[I]{q.left} f) ∗ (ℓ ↦[J]{q.right} f) ∗ (ℓ ↦[Finset.univ \ I]{q.left} f) ∗ (ℓ ↦[Finset.univ \ J]{q.right} f)) := by
  have hs : (iprop((ℓ ↦{q.left} f) ∗ ℓ ↦{q.right} f) : sProp 𝕄) ⊢ ℓ ↦{q} f := (pointsTo_share (PosShare.mem_left_op_right q)).2
  have hI : (iprop((ℓ ↦[I]{q.left} f) ∗ ℓ ↦[Finset.univ \ I]{q.left} f) : sProp 𝕄) ⊢ ℓ ↦{q.left} f := (pointsTo_split_subset (Finset.subset_univ I)).2
  have hJ : (iprop((ℓ ↦[J]{q.right} f) ∗ ℓ ↦[Finset.univ \ J]{q.right} f) : sProp 𝕄) ⊢ ℓ ↦{q.right} f := (pointsTo_split_subset (Finset.subset_univ J)).2
  have h1 : (ℓ ↦{q} f : sProp 𝕄) ⊢ iprop((ℓ ↦[I]{q.left} f) ∗ (ℓ ↦[J]{q.right} f) ∗ (ℓ ↦[Finset.univ \ I]{q.left} f) ∗ (ℓ ↦[Finset.univ \ J]{q.right} f)) := by
    refine (pointsTo_share (PosShare.mem_left_op_right q)).1.trans ?_
    iintro ⟨Ha, Hb⟩
    ihave Ha := (pointsTo_split_subset (S := Finset.univ) (Finset.subset_univ I)).1 $$ Ha
    ihave Hb := (pointsTo_split_subset (S := Finset.univ) (Finset.subset_univ J)).1 $$ Hb
    icases Ha with ⟨Ha, Ha'⟩
    icases Hb with ⟨Hb, Hb'⟩
    isplitl [Ha]; · iexact Ha
    isplitl [Hb]; · iexact Hb
    isplitl [Ha']; · iexact Ha'
    iexact Hb'
  have h2 : (iprop((ℓ ↦[I]{q.left} f) ∗ (ℓ ↦[J]{q.right} f) ∗ (ℓ ↦[Finset.univ \ I]{q.left} f) ∗ (ℓ ↦[Finset.univ \ J]{q.right} f)) : sProp 𝕄) ⊢ ℓ ↦{q} f := by
    iintro ⟨Ha, Hb, Ha', Hb'⟩
    iapply hs
    isplitl [Ha Ha']
    · iapply hI
      isplitl [Ha] <;> iassumption
    · iapply hJ
      isplitl [Hb] <;> iassumption
  exact BI.Entails.antisymm h1 h2

section Task

variable (d : Dev nD) (c : Fin τ.nSC) (s : Fin τ.nSub)
  (o1 o2 : Fin 1 → Nat) (h1 : ∀ a, o1 a + S128.size a ≤ S16384.size a) (h2 : ∀ a, o2 a + S128.size a ≤ S16384.size a)
  (o3 o4 o5 o6 : Fin 2 → Nat) (h3 : ∀ a, o3 a + S128x128.size a ≤ S8192x256.size a) (h4 : ∀ a, o4 a + S128x128.size a ≤ S8192x256.size a)
  (h5 : ∀ a, o5 a + S128x128.size a ≤ S8192x256.size a) (h6 : ∀ a, o6 a + S128x128.size a ≤ S8192x256.size a)
  (pol : Memref sig .scVector .hbm S100000x128 .f32) (hpol : pol.IsWhole) (tick : Memref sig .scVector .hbm S100000x128 .f32) (htick : tick.IsWhole)
  (pid : Memref sig .scVector .hbm S16384 .i32) (hpid : pid.IsWhole) (tid : Memref sig .scVector .hbm S16384 .i32) (htid : tid.IsWhole)
  (out : Memref sig .scVector .hbm S8192x256 .f32) (hout : out.IsWhole)
  (ip0 : Memref sig .scVector .vmem S128 .i32) (hip0 : ip0.IsWhole) (ip1 : Memref sig .scVector .vmem S128 .i32) (hip1 : ip1.IsWhole)
  (it0 : Memref sig .scVector .vmem S128 .i32) (hit0 : it0.IsWhole) (it1 : Memref sig .scVector .vmem S128 .i32) (hit1 : it1.IsWhole)
  (rp0 : Memref sig .scVector .vmem S128x128 .f32) (hrp0 : rp0.IsWhole) (rp1 : Memref sig .scVector .vmem S128x128 .f32) (hrp1 : rp1.IsWhole)
  (rt0 : Memref sig .scVector .vmem S128x128 .f32) (hrt0 : rt0.IsWhole) (rt1 : Memref sig .scVector .vmem S128x128 .f32) (hrt1 : rt1.IsWhole)
  (l0 l1 l2 l3 s0 s1 s2 s3 w0 w1 w2 w3 : DmaSems sig S_)

set_option maxHeartbeats 4000000 in
/-- The task, from a share of its inputs, its rows, its scratch and its semaphores; its rows come back gathered. -/
theorem task_tile (w base : ℕ) (q : PosShare TreeShare) (O : CellTallies nD τ sig (HIx 2)) (W : Waits sig (HIx 2)) (hO : ∀ g, O g none = 0)
    (e1 : o1 0 = base + 256 * w) (e2 : o2 0 = base + (256 * w + 128)) (e3 : o3 = ![256 * w, 0]) (e4 : o4 = ![256 * w + 128, 0]) (e5 : o5 = ![256 * w, 128]) (e6 : o6 = ![256 * w + 128, 128])
    (fpol : Buf (Elt F) (pol.view.loc (V d c s : Thread nD τ))) (ftick : Buf (Elt F) (tick.view.loc (V d c s : Thread nD τ))) (fpid : Buf (Elt F) (pid.view.loc (V d c s : Thread nD τ))) (ftid : Buf (Elt F) (tid.view.loc (V d c s : Thread nD τ)))
    (G f : Buf (Elt F) (out.view.loc (V d c s : Thread nD τ)))
    (hG : out.view.read (Elt F) G = rowsOf (pol.view.read (Elt F) fpol) (tick.view.read (Elt F) ftick) (pid.view.read (Elt F) fpid) (tid.view.read (Elt F) ftid) base)
    (hp : ∀ j, (pid.view.read (Elt F) fpid j).toNat < 100000) (ht : ∀ j, (tid.view.read (Elt F) ftid j).toNat < 100000)
    (RB RS : sProp 𝕄)
    (hB : (scopedBufs (V d c s : Thread nD τ) : sProp 𝕄) = iprop(((∃ w, ip0.view.loc (V d c s : Thread nD τ) ↦[ip0.view.set]{fullShare} w) ∗ (∃ w, ip1.view.loc (V d c s : Thread nD τ) ↦[ip1.view.set]{fullShare} w) ∗ (∃ w, it0.view.loc (V d c s : Thread nD τ) ↦[it0.view.set]{fullShare} w) ∗ (∃ w, it1.view.loc (V d c s : Thread nD τ) ↦[it1.view.set]{fullShare} w) ∗ (∃ w, rp0.view.loc (V d c s : Thread nD τ) ↦[rp0.view.set]{fullShare} w) ∗ (∃ w, rp1.view.loc (V d c s : Thread nD τ) ↦[rp1.view.set]{fullShare} w) ∗ (∃ w, rt0.view.loc (V d c s : Thread nD τ) ↦[rt0.view.set]{fullShare} w) ∗ (∃ w, rt1.view.loc (V d c s : Thread nD τ) ↦[rt1.view.set]{fullShare} w)) ∗ RB))
    (hS : (scopedSems0 (V d c s : Thread nD τ) : sProp 𝕄) = iprop((semVal ((V d c s : Thread nD τ), SemLoc.dma l0.sem) 0 ∗ semVal ((V d c s : Thread nD τ), SemLoc.dma l1.sem) 0 ∗ semVal ((V d c s : Thread nD τ), SemLoc.dma l2.sem) 0 ∗ semVal ((V d c s : Thread nD τ), SemLoc.dma l3.sem) 0 ∗ semVal ((V d c s : Thread nD τ), SemLoc.dma s0.sem) 0 ∗ semVal ((V d c s : Thread nD τ), SemLoc.dma s1.sem) 0 ∗ semVal ((V d c s : Thread nD τ), SemLoc.dma s2.sem) 0 ∗ semVal ((V d c s : Thread nD τ), SemLoc.dma s3.sem) 0 ∗ semVal ((V d c s : Thread nD τ), SemLoc.dma w0.sem) 0 ∗ semVal ((V d c s : Thread nD τ), SemLoc.dma w1.sem) 0 ∗ semVal ((V d c s : Thread nD τ), SemLoc.dma w2.sem) 0 ∗ semVal ((V d c s : Thread nD τ), SemLoc.dma w3.sem) 0) ∗ RS)) :
    (iprop(levAts (K (F := F)).L (K (F := F)).lev ∗ ((pid.view.loc (V d c s : Thread nD τ) ↦{q} fpid) ∗ (tid.view.loc (V d c s : Thread nD τ) ↦{q} ftid) ∗ (pol.view.loc (V d c s : Thread nD τ) ↦{q} fpol) ∗ (tick.view.loc (V d c s : Thread nD τ) ↦{q} ftick))
        ∗ (out.view.loc (V d c s : Thread nD τ) ↦[(blk w).map out.view.emb]{fullShare} f) ∗ scopedBufs (V d c s : Thread nD τ) ∗ scopedSems0 (V d c s : Thread nD τ) ∗ owes (V d c s : Thread nD τ) O W) : sProp 𝕄)
      ⊢ wp frame (wpE (defs₀ (F := F)) 𝒱₀ (V d c s : Thread nD τ) none) Set.univ
          (task c s o1 o2 h1 h2 o3 o4 o5 o6 h3 h4 h5 h6 pol tick pid tid out ip0 hip0 ip1 hip1 it0 hit0 it1 hit1 rp0 hrp0 rp1 hrp1 rt0 hrt0 rt1 hrt1
            l0 l1 l2 l3 s0 s1 s2 s3 w0 w1 w2 w3)
          fun _ => (iprop(((pid.view.loc (V d c s : Thread nD τ) ↦{q} fpid) ∗ (tid.view.loc (V d c s : Thread nD τ) ↦{q} ftid) ∗ (pol.view.loc (V d c s : Thread nD τ) ↦{q} fpol) ∗ (tick.view.loc (V d c s : Thread nD τ) ↦{q} ftick))
            ∗ (out.view.loc (V d c s : Thread nD τ) ↦[(blk w).map out.view.emb]{fullShare} G) ∗ scopedBufs (V d c s : Thread nD τ) ∗ scopedSems0 (V d c s : Thread nD τ)
            ∗ ∃ W', ⌜∀ p ∈ W', p ∈ W ∨ p.2 = none⌝ ∗ owes (V d c s : Thread nD τ) O W') : sProp 𝕄) := by
  rw [hB, hS, pts_blocks d c s out w o3 o4 o5 o6 h3 h4 h5 h6 e3 e4 e5 e6, pts_blocks d c s out w o3 o4 o5 o6 h3 h4 h5 h6 e3 e4 e5 e6,
    pts_two q fpid (idPart pid o1 h1).view.set (idPart pid o2 h2).view.set, pts_two q ftid (idPart tid o1 h1).view.set (idPart tid o2 h2).view.set,
    pts_two q fpol (table pol).view.set (table pol).view.set, pts_two q ftick (table tick).view.set (table tick).view.set]
  have c30 : o3 0 = 256 * w := by rw [e3]; rfl
  have c31 : o3 1 = 0 := by rw [e3]; rfl
  have c40 : o4 0 = 256 * w + 128 := by rw [e4]; rfl
  have c41 : o4 1 = 0 := by rw [e4]; rfl
  have c50 : o5 0 = 256 * w := by rw [e5]; rfl
  have c51 : o5 1 = 128 := by rw [e5]; rfl
  have c60 : o6 0 = 256 * w + 128 := by rw [e6]; rfl
  have c61 : o6 1 = 128 := by rw [e6]; rfl
  have hG3 := gathered_pol out _ _ _ _ base G hG o3 h3 o1 h1 (by omega) c31 pol fpol rfl pid fpid rfl
  have hG4 := gathered_pol out _ _ _ _ base G hG o4 h4 o2 h2 (by omega) c41 pol fpol rfl pid fpid rfl
  have hG5 := gathered_tick out _ _ _ _ base G hG o5 h5 o1 h1 (by omega) c51 tick ftick rfl tid ftid rfl
  have hG6 := gathered_tick out _ _ _ _ base G hG o6 h6 o2 h2 (by omega) c61 tick ftick rfl tid ftid rfl
  iintro ⟨#Hlv, ⟨⟨Hi0, Hi1, Hia, Hib⟩, ⟨Hi2, Hi3, Hic, Hid⟩, ⟨Hpa, Hpb, Hpc, Hpd⟩, Hta, Htb, Htc, Htd⟩, ⟨Ho3, Ho4, Ho5, Ho6⟩,
    ⟨⟨⟨%i0, Hip0⟩, ⟨%i1, Hip1⟩, ⟨%i2, Hit0⟩, ⟨%i3, Hit1⟩, ⟨%r0, Hrp0⟩, ⟨%r1, Hrp1⟩, ⟨%r2, Hrt0⟩, ⟨%r3, Hrt1⟩⟩, HRB⟩,
    ⟨⟨Hl0, Hl1, Hl2, Hl3, Hs0, Hs1, Hs2, Hs3, Hw0, Hw1, Hw2, Hw3⟩, HRS⟩, HO⟩
  ihave Hmw := (show levAts (K (F := F)).L (K (F := F)).lev ⊢ Transfers.MayWaits (V d c s : Thread nD τ) (default : HIx 2) O from
    (K (F := F)).mayWaits_none (thr := (V d c s : Thread nD τ)) hO) $$ Hlv
  iapply (wp_wand_r frame _ _)
  isplitl [Hmw Hi0 Hi1 Hi2 Hi3 Hpa Hpb Hta Htb Ho3 Ho4 Ho5 Ho6 Hip0 Hip1 Hit0 Hit1 Hrp0 Hrp1 Hrt0 Hrt1 Hl0 Hl1 Hl2 Hl3 Hs0 Hs1 Hs2 Hs3 Hw0 Hw1 Hw2 Hw3 HO]
  · iapply (task_wp d c s o1 o2 h1 h2 o3 o4 o5 o6 h3 h4 h5 h6 pol tick pid tid out ip0 hip0 ip1 hip1 it0 hit0 it1 hit1 rp0 hrp0 rp1 hrp1 rt0 hrt0 rt1 hrt1
      l0 l1 l2 l3 s0 s1 s2 s3 w0 w1 w2 w3 q.left q.right O W fpol ftick fpid ftid G f i0 i1 i2 i3 r0 r1 r2 r3 hG3 hG4 hG5 hG6 hp ht)
    isplitl [Hmw]; · iexact Hmw
    isplitl [Hi0]; · iexact Hi0
    isplitl [Hi1]; · iexact Hi1
    isplitl [Hi2]; · iexact Hi2
    isplitl [Hi3]; · iexact Hi3
    isplitl [Hpa]; · iexact Hpa
    isplitl [Hpb]; · iexact Hpb
    isplitl [Hta]; · iexact Hta
    isplitl [Htb]; · iexact Htb
    isplitl [Ho3]; · iexact Ho3
    isplitl [Ho4]; · iexact Ho4
    isplitl [Ho5]; · iexact Ho5
    isplitl [Ho6]; · iexact Ho6
    isplitl [Hip0]; · iexact Hip0
    isplitl [Hip1]; · iexact Hip1
    isplitl [Hit0]; · iexact Hit0
    isplitl [Hit1]; · iexact Hit1
    isplitl [Hrp0]; · iexact Hrp0
    isplitl [Hrp1]; · iexact Hrp1
    isplitl [Hrt0]; · iexact Hrt0
    isplitl [Hrt1]; · iexact Hrt1
    isplitl [Hl0]; · iexact Hl0
    isplitl [Hl1]; · iexact Hl1
    isplitl [Hl2]; · iexact Hl2
    isplitl [Hl3]; · iexact Hl3
    isplitl [Hs0]; · iexact Hs0
    isplitl [Hs1]; · iexact Hs1
    isplitl [Hs2]; · iexact Hs2
    isplitl [Hs3]; · iexact Hs3
    isplitl [Hw0]; · iexact Hw0
    isplitl [Hw1]; · iexact Hw1
    isplitl [Hw2]; · iexact Hw2
    isplitl [Hw3]; · iexact Hw3
    iexact HO
  iintro %_ ⟨Hi0, Hi1, Hi2, Hi3, Hpa, Hpb, Hta, Htb, Ho3, Ho4, Ho5, Ho6, Hip0, Hip1, Hit0, Hit1, Hrp0, Hrp1, Hrt0, Hrt1, Hl0, Hl1, Hl2, Hl3, Hs0, Hs1, Hs2, Hs3, Hw0, Hw1, Hw2, Hw3, HO⟩
  isplitl [Hi0 Hi1 Hia Hib Hi2 Hi3 Hic Hid Hpa Hpb Hpc Hpd Hta Htb Htc Htd]
  · isplitl [Hi0 Hi1 Hia Hib]
    · isplitl [Hi0]; · iexact Hi0
      isplitl [Hi1]; · iexact Hi1
      isplitl [Hia]; · iexact Hia
      iexact Hib
    isplitl [Hi2 Hi3 Hic Hid]
    · isplitl [Hi2]; · iexact Hi2
      isplitl [Hi3]; · iexact Hi3
      isplitl [Hic]; · iexact Hic
      iexact Hid
    isplitl [Hpa Hpb Hpc Hpd]
    · isplitl [Hpa]; · iexact Hpa
      isplitl [Hpb]; · iexact Hpb
      isplitl [Hpc]; · iexact Hpc
      iexact Hpd
    isplitl [Hta]; · iexact Hta
    isplitl [Htb]; · iexact Htb
    isplitl [Htc]; · iexact Htc
    iexact Htd
  isplitl [Ho3 Ho4 Ho5 Ho6]
  · isplitl [Ho3]; · iexact Ho3
    isplitl [Ho4]; · iexact Ho4
    isplitl [Ho5]; · iexact Ho5
    iexact Ho6
  isplitl [Hip0 Hip1 Hit0 Hit1 Hrp0 Hrp1 Hrt0 Hrt1 HRB]
  · isplitl [Hip0 Hip1 Hit0 Hit1 Hrp0 Hrp1 Hrt0 Hrt1]
    · isplitl [Hip0]; · iexact Hip0
      isplitl [Hip1]; · iexact Hip1
      isplitl [Hit0]; · iexact Hit0
      isplitl [Hit1]; · iexact Hit1
      isplitl [Hrp0]; · iexact Hrp0
      isplitl [Hrp1]; · iexact Hrp1
      isplitl [Hrt0]; · iexact Hrt0
      iexact Hrt1
    iexact HRB
  isplitl [Hl0 Hl1 Hl2 Hl3 Hs0 Hs1 Hs2 Hs3 Hw0 Hw1 Hw2 Hw3 HRS]
  · isplitl [Hl0 Hl1 Hl2 Hl3 Hs0 Hs1 Hs2 Hs3 Hw0 Hw1 Hw2 Hw3]
    · isplitl [Hl0]; · iexact Hl0
      isplitl [Hl1]; · iexact Hl1
      isplitl [Hl2]; · iexact Hl2
      isplitl [Hl3]; · iexact Hl3
      isplitl [Hs0]; · iexact Hs0
      isplitl [Hs1]; · iexact Hs1
      isplitl [Hs2]; · iexact Hs2
      isplitl [Hs3]; · iexact Hs3
      isplitl [Hw0]; · iexact Hw0
      isplitl [Hw1]; · iexact Hw1
      isplitl [Hw2]; · iexact Hw2
      iexact Hw3
    iexact HRS
  iexact HO

end Task

end Cert.Proof

end
-- ==== Proof.Obl.lean ====
/-
  Each call's scratch arrays and semaphores, taken out of what a task owns.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

/-- An array held whole at some contents, spelled through its whole reference. -/
theorem any_whole (d : Dev nD) (c : Fin τ.nSC) (s : Fin τ.nSub) (b : Ref sig .scVector) :
    (iprop(∃ f, (V d c s : Thread nD τ).loc b ↦{fullShare} f) : sProp 𝕄)
      = iprop(∃ w, (Memref.whole b).view.loc (V d c s : Thread nD τ) ↦[(Memref.whole b).view.set]{fullShare} w) := by
  have h := View.set_whole b
  rw [Memref.view_whole, h]

/-- A thread's own semaphore as a machine semaphore. -/
def semAt (t : Thread nD τ) : SemLoc sig ↪ GSem nD τ sig := ⟨fun s => (t, s), fun _ _ h => (Prod.mk.inj h).2⟩
/-- A thread's own reference as a device's. -/
def refAt (t : Thread nD τ) : Ref sig t.2.kind ↪ DevRef τ sig := ⟨t.2.devRef, Proc.devRef_injective _⟩

/-- Named scoped semaphores of a thread, and the rest of its own. -/
theorem ownSems0_take (t : Thread nD τ) (L : Finset (SemLoc sig)) (hL : ∀ s ∈ L, s.isScoped t.2.kind = true) :
    (ownSems0 t : sProp 𝕄) = iprop((bigSep L fun s => semVal (t, s) 0) ∗ bigSep (ownCells t \ L.map (semAt t)) fun g => semVal g 0) := by
  have hsub : L.map (semAt t) ⊆ ownCells t := by
    intro g hg
    obtain ⟨s, hs, rfl⟩ := Finset.mem_map.mp hg
    exact mem_ownCells.mpr ⟨rfl, hL s hs⟩
  have h := bigSep_map (s := L) (semAt t) (Φ := fun g : GSem nD τ sig => (semVal g 0 : sProp 𝕄))
  unfold ownSems0
  rw [bigSep_sdiff_split hsub, h]
  rfl

/-- Named buffers of a task, and the rest of its own. -/
theorem ownBufs_take (d : Dev nD) (c : Fin τ.nSC) (s : Fin τ.nSub) (L : Finset (Ref sig .scVector)) (hL : ∀ b ∈ L, ((Proc.scVector c s : Proc τ).devRef b).owner = .proc (Proc.scVector c s : Proc τ)) :
    (ownBufs (V d c s : Thread nD τ) : sProp 𝕄)
      = iprop((bigSep L fun b => iprop(∃ f, (V d c s : Thread nD τ).loc b ↦{fullShare} f)) ∗ bigSep (ownRefs (Proc.scVector c s : Proc τ) \ L.map (refAt (V d c s))) fun b => iprop(∃ f, ((d, b) : Loc nD τ sig) ↦{fullShare} f)) := by
  have hsub : L.map (refAt (V d c s)) ⊆ ownRefs (Proc.scVector c s : Proc τ) := by
    intro g hg
    obtain ⟨b, hb, rfl⟩ := Finset.mem_map.mp hg
    exact SparseCore.Cfg.mem_ownRefs_of_owner (hL b hb)
  have h := bigSep_map (s := L) (refAt (V d c s)) (Φ := fun b : DevRef τ sig => (iprop(∃ f, ((d, b) : Loc nD τ sig) ↦{fullShare} f) : sProp 𝕄))
  unfold ownBufs
  refine (bigSep_sdiff_split hsub).trans ?_
  rw [h]
  rfl

/-- Eight conjuncts and a rest, each rewritten. -/
theorem eight_congr {A0 A1 A2 A3 A4 A5 A6 A7 B0 B1 B2 B3 B4 B5 B6 B7 R : sProp 𝕄} (h0 : A0 = B0) (h1 : A1 = B1) (h2 : A2 = B2) (h3 : A3 = B3)
    (h4 : A4 = B4) (h5 : A5 = B5) (h6 : A6 = B6) (h7 : A7 = B7) :
    (iprop((A0 ∗ A1 ∗ A2 ∗ A3 ∗ A4 ∗ A5 ∗ A6 ∗ A7) ∗ R) : sProp 𝕄) = iprop((B0 ∗ B1 ∗ B2 ∗ B3 ∗ B4 ∗ B5 ∗ B6 ∗ B7) ∗ R) := by
  subst h0 h1 h2 h3 h4 h5 h6 h7; rfl

set_option maxHeartbeats 1000000 in
/-- Call 0's scratch arrays, and the rest of a task's buffers. -/
theorem bufs_take0 (d : Dev nD) (c : Fin τ.nSC) (s : Fin τ.nSub) : ∃ R : sProp 𝕄, (ownBufs (V d c s : Thread nD τ) : sProp 𝕄) =
    iprop(((∃ w, (Memref.whole cc0_scratch0).view.loc (V d c s : Thread nD τ) ↦[(Memref.whole cc0_scratch0).view.set]{fullShare} w) ∗ (∃ w, (Memref.whole cc0_scratch1).view.loc (V d c s : Thread nD τ) ↦[(Memref.whole cc0_scratch1).view.set]{fullShare} w) ∗ (∃ w, (Memref.whole cc0_scratch2).view.loc (V d c s : Thread nD τ) ↦[(Memref.whole cc0_scratch2).view.set]{fullShare} w) ∗ (∃ w, (Memref.whole cc0_scratch3).view.loc (V d c s : Thread nD τ) ↦[(Memref.whole cc0_scratch3).view.set]{fullShare} w) ∗ (∃ w, (Memref.whole cc0_scratch4).view.loc (V d c s : Thread nD τ) ↦[(Memref.whole cc0_scratch4).view.set]{fullShare} w) ∗ (∃ w, (Memref.whole cc0_scratch5).view.loc (V d c s : Thread nD τ) ↦[(Memref.whole cc0_scratch5).view.set]{fullShare} w) ∗ (∃ w, (Memref.whole cc0_scratch6).view.loc (V d c s : Thread nD τ) ↦[(Memref.whole cc0_scratch6).view.set]{fullShare} w) ∗ (∃ w, (Memref.whole cc0_scratch7).view.loc (V d c s : Thread nD τ) ↦[(Memref.whole cc0_scratch7).view.set]{fullShare} w)) ∗ R) := by
  have hL : ∀ b ∈ ({cc0_scratch0, cc0_scratch1, cc0_scratch2, cc0_scratch3, cc0_scratch4, cc0_scratch5, cc0_scratch6, cc0_scratch7} : Finset (Ref sig .scVector)), ((Proc.scVector c s : Proc τ).devRef b).owner = .proc (Proc.scVector c s : Proc τ) := by
    intro b hb
    simp only [Finset.mem_insert, Finset.mem_singleton] at hb
    rcases hb with rfl | rfl | rfl | rfl | rfl | rfl | rfl | rfl <;> rfl
  have h := ownBufs_take (F := F) d c s _ hL
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact ⟨_, h.trans (eight_congr (any_whole d c s _) (any_whole d c s _) (any_whole d c s _) (any_whole d c s _) (any_whole d c s _) (any_whole d c s _) (any_whole d c s _) (any_whole d c s _))⟩

/-- Call 0's semaphores, and the rest of a task's. -/
theorem sems_take0 (d : Dev nD) (c : Fin τ.nSC) (s : Fin τ.nSub) : ∃ R : sProp 𝕄, (ownSems0 (V d c s : Thread nD τ) : sProp 𝕄) =
    iprop((semVal ((V d c s : Thread nD τ), SemLoc.dma cc0_scratch8.sem) 0 ∗ semVal ((V d c s : Thread nD τ), SemLoc.dma cc0_scratch9.sem) 0 ∗ semVal ((V d c s : Thread nD τ), SemLoc.dma cc0_scratch10.sem) 0 ∗ semVal ((V d c s : Thread nD τ), SemLoc.dma cc0_scratch11.sem) 0 ∗ semVal ((V d c s : Thread nD τ), SemLoc.dma cc0_scratch12.sem) 0 ∗ semVal ((V d c s : Thread nD τ), SemLoc.dma cc0_scratch13.sem) 0 ∗ semVal ((V d c s : Thread nD τ), SemLoc.dma cc0_scratch14.sem) 0 ∗ semVal ((V d c s : Thread nD τ), SemLoc.dma cc0_scratch15.sem) 0 ∗ semVal ((V d c s : Thread nD τ), SemLoc.dma cc0_scratch16.sem) 0 ∗ semVal ((V d c s : Thread nD τ), SemLoc.dma cc0_scratch17.sem) 0 ∗ semVal ((V d c s : Thread nD τ), SemLoc.dma cc0_scratch18.sem) 0 ∗ semVal ((V d c s : Thread nD τ), SemLoc.dma cc0_scratch19.sem) 0) ∗ R) := by
  have hL : ∀ b ∈ ({SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem, SemLoc.dma cc0_scratch19.sem} : Finset (SemLoc sig)), b.isScoped (V d c s : Thread nD τ).2.kind = true := by
    intro b hb
    simp only [Finset.mem_insert, Finset.mem_singleton] at hb
    rcases hb with rfl | rfl | rfl | rfl | rfl | rfl | rfl | rfl | rfl | rfl | rfl | rfl <;> rfl
  rw [ownSems0_take (V d c s) _ hL, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  exact ⟨_, rfl⟩

set_option maxHeartbeats 1000000 in
/-- Call 1's scratch arrays, and the rest of a task's buffers. -/
theorem bufs_take1 (d : Dev nD) (c : Fin τ.nSC) (s : Fin τ.nSub) : ∃ R : sProp 𝕄, (ownBufs (V d c s : Thread nD τ) : sProp 𝕄) =
    iprop(((∃ w, (Memref.whole cc1_scratch0).view.loc (V d c s : Thread nD τ) ↦[(Memref.whole cc1_scratch0).view.set]{fullShare} w) ∗ (∃ w, (Memref.whole cc1_scratch1).view.loc (V d c s : Thread nD τ) ↦[(Memref.whole cc1_scratch1).view.set]{fullShare} w) ∗ (∃ w, (Memref.whole cc1_scratch2).view.loc (V d c s : Thread nD τ) ↦[(Memref.whole cc1_scratch2).view.set]{fullShare} w) ∗ (∃ w, (Memref.whole cc1_scratch3).view.loc (V d c s : Thread nD τ) ↦[(Memref.whole cc1_scratch3).view.set]{fullShare} w) ∗ (∃ w, (Memref.whole cc1_scratch4).view.loc (V d c s : Thread nD τ) ↦[(Memref.whole cc1_scratch4).view.set]{fullShare} w) ∗ (∃ w, (Memref.whole cc1_scratch5).view.loc (V d c s : Thread nD τ) ↦[(Memref.whole cc1_scratch5).view.set]{fullShare} w) ∗ (∃ w, (Memref.whole cc1_scratch6).view.loc (V d c s : Thread nD τ) ↦[(Memref.whole cc1_scratch6).view.set]{fullShare} w) ∗ (∃ w, (Memref.whole cc1_scratch7).view.loc (V d c s : Thread nD τ) ↦[(Memref.whole cc1_scratch7).view.set]{fullShare} w)) ∗ R) := by
  have hL : ∀ b ∈ ({cc1_scratch0, cc1_scratch1, cc1_scratch2, cc1_scratch3, cc1_scratch4, cc1_scratch5, cc1_scratch6, cc1_scratch7} : Finset (Ref sig .scVector)), ((Proc.scVector c s : Proc τ).devRef b).owner = .proc (Proc.scVector c s : Proc τ) := by
    intro b hb
    simp only [Finset.mem_insert, Finset.mem_singleton] at hb
    rcases hb with rfl | rfl | rfl | rfl | rfl | rfl | rfl | rfl <;> rfl
  have h := ownBufs_take (F := F) d c s _ hL
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact ⟨_, h.trans (eight_congr (any_whole d c s _) (any_whole d c s _) (any_whole d c s _) (any_whole d c s _) (any_whole d c s _) (any_whole d c s _) (any_whole d c s _) (any_whole d c s _))⟩

/-- Call 1's semaphores, and the rest of a task's. -/
theorem sems_take1 (d : Dev nD) (c : Fin τ.nSC) (s : Fin τ.nSub) : ∃ R : sProp 𝕄, (ownSems0 (V d c s : Thread nD τ) : sProp 𝕄) =
    iprop((semVal ((V d c s : Thread nD τ), SemLoc.dma cc1_scratch8.sem) 0 ∗ semVal ((V d c s : Thread nD τ), SemLoc.dma cc1_scratch9.sem) 0 ∗ semVal ((V d c s : Thread nD τ), SemLoc.dma cc1_scratch10.sem) 0 ∗ semVal ((V d c s : Thread nD τ), SemLoc.dma cc1_scratch11.sem) 0 ∗ semVal ((V d c s : Thread nD τ), SemLoc.dma cc1_scratch12.sem) 0 ∗ semVal ((V d c s : Thread nD τ), SemLoc.dma cc1_scratch13.sem) 0 ∗ semVal ((V d c s : Thread nD τ), SemLoc.dma cc1_scratch14.sem) 0 ∗ semVal ((V d c s : Thread nD τ), SemLoc.dma cc1_scratch15.sem) 0 ∗ semVal ((V d c s : Thread nD τ), SemLoc.dma cc1_scratch16.sem) 0 ∗ semVal ((V d c s : Thread nD τ), SemLoc.dma cc1_scratch17.sem) 0 ∗ semVal ((V d c s : Thread nD τ), SemLoc.dma cc1_scratch18.sem) 0 ∗ semVal ((V d c s : Thread nD τ), SemLoc.dma cc1_scratch19.sem) 0) ∗ R) := by
  have hL : ∀ b ∈ ({SemLoc.dma cc1_scratch8.sem, SemLoc.dma cc1_scratch9.sem, SemLoc.dma cc1_scratch10.sem, SemLoc.dma cc1_scratch11.sem, SemLoc.dma cc1_scratch12.sem, SemLoc.dma cc1_scratch13.sem, SemLoc.dma cc1_scratch14.sem, SemLoc.dma cc1_scratch15.sem, SemLoc.dma cc1_scratch16.sem, SemLoc.dma cc1_scratch17.sem, SemLoc.dma cc1_scratch18.sem, SemLoc.dma cc1_scratch19.sem} : Finset (SemLoc sig)), b.isScoped (V d c s : Thread nD τ).2.kind = true := by
    intro b hb
    simp only [Finset.mem_insert, Finset.mem_singleton] at hb
    rcases hb with rfl | rfl | rfl | rfl | rfl | rfl | rfl | rfl | rfl | rfl | rfl | rfl <;> rfl
  rw [ownSems0_take (V d c s) _ hL, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  exact ⟨_, rfl⟩

end Cert.Proof
end
-- ==== Proof.Body.lean ====
/-
  Each call's body at a task, and the two obligations the launch asks of the tasks.
-/
module

public import proofs.«01_k».proof.Proof.Obl

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 2) (Elt F) ℕ UU ℕ

variable (m : (ℓ : Loc nD τ sig) → Buf (Elt F) ℓ)

/-- A set of a whole array's elements, through its whole view. -/
theorem map_whole (b : Ref sig .scVector) (I) : Finset.map (Memref.whole b).view.emb I = I := by
  ext x; simp only [Finset.mem_map]; exact ⟨fun ⟨y, hy, h⟩ => h ▸ hy, fun h => ⟨x, h, rfl⟩⟩

/-- What the obligation hands is what a body takes. -/
theorem obl_pre {L A B C D E : sProp 𝕄} : (iprop(L ∗ emp ∗ (A ∗ B) ∗ C ∗ D ∗ E) : sProp 𝕄) ⊢ iprop(L ∗ A ∗ B ∗ C ∗ D ∗ E) := by
  iintro ⟨Hl, -, ⟨Hi, Ho⟩, Hb, Hs, Hw⟩
  isplitl [Hl]; · iexact Hl
  isplitl [Hi]; · iexact Hi
  isplitl [Ho]; · iexact Ho
  isplitl [Hb]; · iexact Hb
  isplitl [Hs]; · iexact Hs
  iexact Hw

/-- What a body leaves is what the obligation asks. -/
theorem obl_post {thr : Thread nD τ} {A B C D : sProp 𝕄} {O : CellTallies nD τ sig (HIx 2)} {W : Waits sig (HIx 2)} {Q : SemLoc sig × HIx 2 → Prop} :
    (iprop(A ∗ B ∗ C ∗ D ∗ ∃ W', ⌜∀ p ∈ W', p ∈ W ∨ p.2 = none⌝ ∗ owes thr O W') : sProp 𝕄)
      ⊢ iprop((A ∗ B) ∗ C ∗ D ∗ ∃ W', ⌜∀ p ∈ W', p ∈ W ∨ p.2 = none ∨ Q p⌝ ∗ owes thr O W') := by
  iintro ⟨HA, HB, HC, HD, %W', %hW', HW⟩
  isplitl [HA HB]
  · isplitl [HA] <;> iassumption
  isplitl [HC]; · iexact HC
  isplitl [HD]; · iexact HD
  iexists W'; isplitr
  · ipureintro; exact fun p hp => (hW' p hp).imp_right Or.inl
  · iexact HW

/-- A task's coordinates in call 0's grid. -/
def at0 (c : Fin (grid0.bound 0)) (s : Fin (grid0.bound 1)) : grid0.Coords :=
  fun | 0 => c | 1 => s | ⟨_ + 2, h⟩ => absurd h (Nat.not_lt.2 (Nat.le_add_left _ _))

theorem defs₀_task0 (c : Fin τ.nSC) (s : Fin τ.nSub) :
    defs₀ (F := F) (.scVector c s) 0 () = SparseCore.onTile hcore0 hsub0 (fun c s => cc0_k (F := F) (at0 c s) (Memref.whole main_arg2_scv) (Memref.isWhole_whole _) (Memref.whole main_arg3_scv) (Memref.isWhole_whole _) (Memref.whole main_arg0_scv) (Memref.isWhole_whole _) (Memref.whole main_arg1_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19) ⟨⟩ c s := rfl

set_option maxHeartbeats 1000000 in
/-- Call 0's body at a task, from its share of the operands: its rows of the call's array come back gathered. -/
theorem tile_body0 (hpre : PreOK m) (d : Dev nD) (i : grid0.Coords) (qs : PosShare TreeShare) (w : ℕ) (hw : w = 2 * (i 1).val + (i 0).val)
    (O : CellTallies nD τ sig (HIx 2)) (W : Waits sig (HIx 2)) (hO : ∀ g, O g none = 0) :
    (iprop(levAts (K (F := F)).L (K (F := F)).lev ∗ inPts m d qs ∗ outPts 0 d (blk w) (outOld m 0 d)
        ∗ scopedBufs (V d ((i 0).castLE hcore0) ((i 1).castLE hsub0)) ∗ scopedSems0 (V d ((i 0).castLE hcore0) ((i 1).castLE hsub0))
        ∗ owes (V d ((i 0).castLE hcore0) ((i 1).castLE hsub0)) O W) : sProp 𝕄)
      ⊢ wp frame (wpE (defs₀ (F := F)) 𝒱₀ (V d ((i 0).castLE hcore0) ((i 1).castLE hsub0)) none) Set.univ
          (cc0_k (F := F) i (Memref.whole main_arg2_scv) (Memref.isWhole_whole _) (Memref.whole main_arg3_scv) (Memref.isWhole_whole _) (Memref.whole main_arg0_scv) (Memref.isWhole_whole _) (Memref.whole main_arg1_scv) (Memref.isWhole_whole _) (Memref.whole main_v19_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19)
          fun _ => (iprop(inPts m d qs ∗ outPts 0 d (blk w) (outNew m 0 d)
            ∗ scopedBufs (V d ((i 0).castLE hcore0) ((i 1).castLE hsub0)) ∗ scopedSems0 (V d ((i 0).castLE hcore0) ((i 1).castLE hsub0))
            ∗ ∃ W', ⌜∀ p ∈ W', p ∈ W ∨ p.2 = none⌝ ∗ owes (V d ((i 0).castLE hcore0) ((i 1).castLE hsub0)) O W') : sProp 𝕄) := by
  obtain ⟨RB, hB⟩ := bufs_take0 (F := F) d ((i 0).castLE hcore0) ((i 1).castLE hsub0)
  obtain ⟨RS, hS⟩ := sems_take0 (F := F) d ((i 0).castLE hcore0) ((i 1).castLE hsub0)
  have e3 : k0_off3 i = ![256 * w, 0] := by rw [k0_off3_eq, hw]; congr 1; omega
  have e4 : k0_off4 i = ![256 * w + 128, 0] := by rw [k0_off4_eq, hw]; congr 1; omega
  have e5 : k0_off5 i = ![256 * w, 128] := by rw [k0_off5_eq, hw]; congr 1; omega
  have e6 : k0_off6 i = ![256 * w + 128, 128] := by rw [k0_off6_eq, hw]; congr 1; omega
  have e1 : k0_off1 i 0 = 0 + 256 * w := by rw [k0_off1_eq, hw]; simp only [Matrix.cons_val_zero]; omega
  have e2 : k0_off2 i 0 = 0 + (256 * w + 128) := by rw [k0_off2_eq, hw]; simp only [Matrix.cons_val_zero]; omega
  have h := task_tile (F := F) d ((i 0).castLE hcore0) ((i 1).castLE hsub0) (k0_off1 i) (k0_off2 i) (k0_off1_inb i) (k0_off2_inb i) (k0_off3 i) (k0_off4 i) (k0_off5 i) (k0_off6 i) (k0_off3_inb i) (k0_off4_inb i) (k0_off5_inb i) (k0_off6_inb i)
    (Memref.whole main_arg2_scv) (Memref.whole main_arg3_scv) (Memref.whole main_arg0_scv) (Memref.whole main_arg1_scv) (Memref.whole main_v19_scv) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15 cc0_scratch16 cc0_scratch17 cc0_scratch18 cc0_scratch19 w 0 qs O W hO e1 e2 e3 e4 e5 e6
    (m (at_ d main_arg2)) (m (at_ d main_arg3)) (m (at_ d main_arg0)) (m (at_ d main_arg1)) (outNew m 0 d) (outOld m 0 d) rfl
    (fun j => (hpre d j).1) (fun j => (hpre d j).2) RB RS (((K (F := F)).scopedBufs_V scFacts d _ _).trans hB) ((SparseCore.Cfg.scopedSems0_V (Val := Elt F) d _ _).trans hS)
  rw [map_whole] at h
  rw [cc0_k_eq]
  exact h

set_option maxRecDepth 16384 in
/-- Call 0's tasks meet the launch's obligation. -/
theorem tileObl0 (hpre : PreOK m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task0]
  simp only [SparseCore.onTile, hci, and_self, ↓reduceDIte]
  refine BI.Entails.trans ?_ ((tile_body0 m hpre d (at0 ⟨_, hci.1⟩ ⟨_, hci.2⟩) (taskShare (c.cast (nCore_eq 0)) (i.cast (nSub_eq 0))) (2 * i.val + c.val) rfl O W hO).trans (wp_mono frame _ _ fun _ => obl_post))
  exact obl_pre

/-- A task's coordinates in call 1's grid. -/
def at1 (c : Fin (grid1.bound 0)) (s : Fin (grid1.bound 1)) : grid1.Coords :=
  fun | 0 => c | 1 => s | ⟨_ + 2, h⟩ => absurd h (Nat.not_lt.2 (Nat.le_add_left _ _))

theorem defs₀_task1 (c : Fin τ.nSC) (s : Fin τ.nSub) :
    defs₀ (F := F) (.scVector c s) 1 () = SparseCore.onTile hcore1 hsub1 (fun c s => cc1_k (F := F) (at1 c s) (Memref.whole main_arg2_scv) (Memref.isWhole_whole _) (Memref.whole main_arg3_scv) (Memref.isWhole_whole _) (Memref.whole main_arg0_scv) (Memref.isWhole_whole _) (Memref.whole main_arg1_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scratch11 cc1_scratch12 cc1_scratch13 cc1_scratch14 cc1_scratch15 cc1_scratch16 cc1_scratch17 cc1_scratch18 cc1_scratch19) ⟨⟩ c s := rfl

set_option maxHeartbeats 1000000 in
/-- Call 1's body at a task, from its share of the operands: its rows of the call's array come back gathered. -/
theorem tile_body1 (hpre : PreOK m) (d : Dev nD) (i : grid1.Coords) (qs : PosShare TreeShare) (w : ℕ) (hw : w = 2 * (i 1).val + (i 0).val)
    (O : CellTallies nD τ sig (HIx 2)) (W : Waits sig (HIx 2)) (hO : ∀ g, O g none = 0) :
    (iprop(levAts (K (F := F)).L (K (F := F)).lev ∗ inPts m d qs ∗ outPts 1 d (blk w) (outOld m 1 d)
        ∗ scopedBufs (V d ((i 0).castLE hcore1) ((i 1).castLE hsub1)) ∗ scopedSems0 (V d ((i 0).castLE hcore1) ((i 1).castLE hsub1))
        ∗ owes (V d ((i 0).castLE hcore1) ((i 1).castLE hsub1)) O W) : sProp 𝕄)
      ⊢ wp frame (wpE (defs₀ (F := F)) 𝒱₀ (V d ((i 0).castLE hcore1) ((i 1).castLE hsub1)) none) Set.univ
          (cc1_k (F := F) i (Memref.whole main_arg2_scv) (Memref.isWhole_whole _) (Memref.whole main_arg3_scv) (Memref.isWhole_whole _) (Memref.whole main_arg0_scv) (Memref.isWhole_whole _) (Memref.whole main_arg1_scv) (Memref.isWhole_whole _) (Memref.whole main_v20_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scratch8 cc1_scratch9 cc1_scratch10 cc1_scratch11 cc1_scratch12 cc1_scratch13 cc1_scratch14 cc1_scratch15 cc1_scratch16 cc1_scratch17 cc1_scratch18 cc1_scratch19)
          fun _ => (iprop(inPts m d qs ∗ outPts 1 d (blk w) (outNew m 1 d)
            ∗ scopedBufs (V d ((i 0).castLE hcore1) ((i 1).castLE hsub1)) ∗ scopedSems0 (V d ((i 0).castLE hcore1) ((i 1).castLE hsub1))
            ∗ ∃ W', ⌜∀ p ∈ W', p ∈ W ∨ p.2 = none⌝ ∗ owes (V d ((i 0).castLE hcore1) ((i 1).castLE hsub1)) O W') : sProp 𝕄) := by
  obtain ⟨RB, hB⟩ := bufs_take1 (F := F) d ((i 0).castLE hcore1) ((i 1).castLE hsub1)
  obtain ⟨RS, hS⟩ := sems_take1 (F := F) d ((i 0).castLE hcore1) ((i 1).castLE hsub1)
  have e3 : k1_off3 i = ![256 * w, 0] := by rw [k1_off3_eq, hw]; congr 1; omega
  have e4 : k1_off4 i = ![256 * w + 128, 0] := by rw [k1_off4_eq, hw]; congr 1; omega
  have e5 : k1_off5 i = ![256 * w, 128] := by rw [k1_off5_eq, hw]; congr 1; omega
  have e6 : k1_off6 i = ![256 * w + 128, 128] := by rw [k1_off6_eq, hw]; congr 1; omega
  have e1 : k1_off1 i 0 = 8192 + 256 * w := by rw [k1_off1_eq, hw]; simp only [Matrix.cons_val_zero]; omega
  have e2 : k1_off2 i 0 = 8192 + (256 * w + 128) := by rw [k1_off2_eq, hw]; simp only [Matrix.cons_val_zero]; omega
  have h := task_tile (F := F) d ((i 0).castLE hcore1) ((i 1).castLE hsub1) (k1_off1 i) (k1_off2 i) (k1_off1_inb i) (k1_off2_inb i) (k1_off3 i) (k1_off4 i) (k1_off5 i) (k1_off6 i) (k1_off3_inb i) (k1_off4_inb i) (k1_off5_inb i) (k1_off6_inb i)
    (Memref.whole main_arg2_scv) (Memref.whole main_arg3_scv) (Memref.whole main_arg0_scv) (Memref.whole main_arg1_scv) (Memref.whole main_v20_scv) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _)
    cc1_scratch8 cc1_scratch9 cc1_scratch10 cc1_scratch11 cc1_scratch12 cc1_scratch13 cc1_scratch14 cc1_scratch15 cc1_scratch16 cc1_scratch17 cc1_scratch18 cc1_scratch19 w 8192 qs O W hO e1 e2 e3 e4 e5 e6
    (m (at_ d main_arg2)) (m (at_ d main_arg3)) (m (at_ d main_arg0)) (m (at_ d main_arg1)) (outNew m 1 d) (outOld m 1 d) rfl
    (fun j => (hpre d j).1) (fun j => (hpre d j).2) RB RS (((K (F := F)).scopedBufs_V scFacts d _ _).trans hB) ((SparseCore.Cfg.scopedSems0_V (Val := Elt F) d _ _).trans hS)
  rw [map_whole] at h
  rw [cc1_k_eq]
  exact h

set_option maxRecDepth 16384 in
/-- Call 1's tasks meet the launch's obligation. -/
theorem tileObl1 (hpre : PreOK m) : (K (F := F)).TileObl (D (F := F)) 𝒱 (P m) v₀ 1 := by
  intro d c i O W hO _ _
  simp only [show (P (F := F) m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_task1]
  simp only [SparseCore.onTile, hci, and_self, ↓reduceDIte]
  refine BI.Entails.trans ?_ ((tile_body1 m hpre d (at1 ⟨_, hci.1⟩ ⟨_, hci.2⟩) (taskShare (c.cast (nCore_eq 1)) (i.cast (nSub_eq 1))) (2 * i.val + c.val) rfl O W hO).trans (wp_mono frame _ _ fun _ => obl_post))
  exact obl_pre

end Cert.Proof
end
-- ==== Proof.Step.lean ====
module

public import proofs.«01_k».proof.Proof.Host
public import proofs.«01_k».proof.Proof.Body

/-!
# One region's step

Inside the host's program a TensorCore kernel takes every buffer at one valuation to every buffer at the valuation with that
kernel's result in its array.
-/

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (ucRefs afterRegion arrRefs cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 2) (Elt F) ℕ UU ℕ

/-- The handshakes' rounds in the machine's resources. -/
abbrev EH : Emb UH 𝕄 := embL

/-- The pipelines' rounds in the machine's resources. -/
def EP : Emb UP 𝕄 := (Emb.inl : Emb UP (UP × Counters)).trans embR

instance EP_landsIn : (EP : Emb UP 𝕄).LandsIn (upEmb : UEmb _ 𝕄) := by unfold EP embR; infer_instance

theorem pin_inj : Function.Injective (Pipeline.PerCore.cellOf (nD := nD) (τ := τ) (fun _ : Dev nD => Pipeline.pin (pcfgs (F := F)) adm)) := cellOf_inj

/-- A pipeline's ghost state on a device. -/
def ghost (p : Fin 2) (d : Dev nD) : sProp 𝕄 :=
  iprop(cellsGhost (Pipeline.pin (pcfgs (F := F)) adm) EP p d ∗ toksInit (Pipeline.pin (pcfgs (F := F)) adm) EP p d)

theorem arrs_sub (p : Fin 2) : arrRefs (pcfgs (F := F) p).spec ⊆ ucRefs τ sig := by
  match p with
  | ⟨0, _⟩ => exact Pipeline.arrRefs_sub_ucRefs spec2 fun w => winFacts2.arr_unscoped w
  | ⟨1, _⟩ => exact Pipeline.arrRefs_sub_ucRefs spec3 fun w => winFacts3.arr_unscoped w

/-- How the pieces of a region's step fit together. -/
theorem region_glue {B H H' O L G₁ G₂ Pre Post A Q : sProp 𝕄} (hpre : iprop(H ∗ O ∗ emp ∗ emp) ⊢ Pre) (hpost : Post ⊢ iprop(H' ∗ O ∗ emp ∗ emp)) (hQ : Q ⊢ A) :
    iprop(B ∗ H ∗ O ∗ L ∗ (G₁ ∗ G₂) ∗ ((B ∗ H' ∗ O) -∗ Q)) ⊢ iprop((iprop(B ∗ Post) -∗ A) ∗ B ∗ Pre ∗ L ∗ G₁ ∗ G₂) := by
  iintro ⟨Hb, Hh, HO, Hlev, ⟨Hg1, Hg2⟩, Hk⟩
  isplitl [Hk]
  · iintro ⟨Hb, Hpost⟩
    ihave Hpost' := hpost $$ Hpost
    icases Hpost' with ⟨Hh, HO, -, -⟩
    iapply hQ
    iapply Hk
    isplitl [Hb]; · iexact Hb
    isplitl [Hh]; · iexact Hh
    iexact HO
  isplitl [Hb]; · iexact Hb
  isplitl [Hh HO]
  · iapply hpre
    isplitl [Hh]; · iexact Hh
    isplitl [HO]; · iexact HO
    isplitr <;> iempintro
  isplitl [Hlev]; · iexact Hlev
  isplitl [Hg1]; · iexact Hg1
  iexact Hg2

variable (Vs : Dev nD → Valuation τ sig (Elt F)) [∀ e, Nonempty (Elt F e)]

set_option backward.isDefEq.respectTransparency.types false in
theorem reg_pre (p : Fin 2) (d : Dev nD) :
    iprop(held (d.tc : Thread nD τ) (ucRefs τ sig) (Vs d) ∗ ((∃ W, owes (d.tc : Thread nD τ) (0 : CellTallies nD τ sig (HIx 2)) W) ∗ emp ∗ emp))
      ⊢ ((reg Vs p (ucRefs τ sig)).pre d : sProp 𝕄) := by
  unfold reg
  exact Pipeline.RegionSeg.ofHeldIn_pre (pcs := pcfgs) (a := adm) (pdats := pdats Vs) (ι := none) (defs₀ := defs₀) (𝒱₀ := 𝒱₀) (L := (K (F := F)).L) (lv := (K (F := F)).lev) (p := p) (D := fun _ => 0)
    (S := ucRefs τ sig) (X := fun _ => BI.emp) (Y := fun _ => BI.emp) (R := fun _ => BI.emp) (W := Vs) (arrs_sub p) d

set_option backward.isDefEq.respectTransparency.types false in
theorem reg_post (p : Fin 2) (d : Dev nD) :
    ((reg Vs p (ucRefs τ sig)).post d : sProp 𝕄)
      ⊢ iprop(held (d.tc : Thread nD τ) (ucRefs τ sig) (afterRegion (pdats Vs p d) (Vs d)) ∗ ((∃ W, owes (d.tc : Thread nD τ) (0 : CellTallies nD τ sig (HIx 2)) W) ∗ emp ∗ emp)) := by
  unfold reg
  exact Pipeline.RegionSeg.ofHeldIn_post (pcs := pcfgs) (a := adm) (pdats := pdats Vs) (ι := none) (defs₀ := defs₀) (𝒱₀ := 𝒱₀) (L := (K (F := F)).L) (lv := (K (F := F)).lev) (p := p) (D := fun _ => 0)
    (S := ucRefs τ sig) (X := fun _ => BI.emp) (Y := fun _ => BI.emp) (R := fun _ => BI.emp) (W := Vs) (arrs_sub p) d

set_option backward.isDefEq.respectTransparency.types false in
/-- Region `p` entered with every buffer at `Vs d`. -/
theorem region_wp (p : Fin 2) (d : Dev nD) {Φ : PUnit → sProp 𝕄} :
    iprop(boundary (d.tc : Thread nD τ) ∗ held (d.tc : Thread nD τ) (ucRefs τ sig) (Vs d) ∗ (∃ W, owes (d.tc : Thread nD τ) (0 : CellTallies nD τ sig (HIx 2)) W)
        ∗ levAts (K (F := F)).L (K (F := F)).lev ∗ ghost p d
        ∗ ((boundary (d.tc : Thread nD τ) ∗ held (d.tc : Thread nD τ) (ucRefs τ sig) (afterRegion (pdats Vs p d) (Vs d))
            ∗ (∃ W, owes (d.tc : Thread nD τ) (0 : CellTallies nD τ sig (HIx 2)) W)) -∗ Φ ⟨⟩))
      ⊢ wp frame (wpE ((K (F := F)).defs D) 𝒱 (T d) none) Set.univ (Prog.lift (.customCall (SparseCore.inner (Pipeline.entry p)) ())) Φ := by
  refine BI.Entails.trans ?_ ((K (F := F)).wp_liftProg D 𝒱 (T d) Set.univ none (Prog.op (.customCall (Pipeline.entry p) ()) Prog.ret) Φ)
  refine BI.Entails.trans ?_ (Pipeline.RegionSeg.wp pcfgs adm (pdats Vs) none pin_inj EP defs₀ 𝒱₀ (K (F := F)).L (K (F := F)).lev (reg Vs p (ucRefs τ sig)) d none
    (fun u h => nomatch h) Prog.ret Φ)
  exact region_glue (reg_pre Vs p d) (reg_post Vs p d) (by rw [wp_ret]; exact fupd_intro)

end Cert.Proof
end
-- ==== Proof.Main.lean ====
module

public import proofs.«01_k».proof.Proof.Step

/-!
# The host's program, end to end

The buffers' contents after each of the program's steps, and the program's run from the launch memory to the last of them.
-/

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.ShloMosaic.Pipeline (ucRefs afterRegion arrRefs cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 2) (Elt F) ℕ UU ℕ

variable (m : (ℓ : Loc nD τ sig) → Buf (Elt F) ℓ)

/-- A buffer of the host, whichever memory it is in. -/
abbrev rf (b : Ref sig .tc) : DevRef τ sig := Proc.devRef .tc b

/-- The launch contents. -/
def val0 (d : Dev nD) : Valuation τ sig (Elt F) := fun b => m (d, b)
/-- After the host's first line. -/
def val1 (d : Dev nD) : Valuation τ sig (Elt F) := after hostOps (val0 m d)
/-- After the two gathers. -/
def val2 (d : Dev nD) : Valuation τ sig (Elt F) :=
  Function.update (Function.update (val1 m d) (rf main_v19) (gat m d 0)) (rf main_v20) (gat m d 8192)
/-- After the first TensorCore kernel. -/
def val3 (d : Dev nD) : Valuation τ sig (Elt F) := afterRegion (pdats (val2 m) 0 d) (val2 m d)
/-- After the second. -/
def val4 (d : Dev nD) : Valuation τ sig (Elt F) := afterRegion (pdats (val3 m) 1 d) (val3 m d)
/-- At the end. -/
def val5 (d : Dev nD) : Valuation τ sig (Elt F) := joinOp.result (val4 m d)

/-- What the two gathers touch. -/
def gset : Finset (DevRef τ sig) := {rf main_arg0, rf main_arg1, rf main_arg2, rf main_arg3, rf main_v19, rf main_v20}

theorem gset_sub : gset ⊆ ucRefs τ sig := by
  intro b hb
  simp only [gset, Finset.mem_insert, Finset.mem_singleton] at hb
  rcases hb with rfl | rfl | rfl | rfl | rfl | rfl <;> decide

theorem sep_four {A B C E Z : sProp 𝕄} : iprop(A ∗ B ∗ C ∗ E ∗ Z) = iprop((A ∗ B ∗ C ∗ E) ∗ Z) := by
  have a (P Q R : sProp 𝕄) : iprop((P ∗ Q) ∗ R) = iprop(P ∗ Q ∗ R) := BI.sep_assoc.antisymm BI.sep_assoc'
  rw [a, a, a]

/-- The launch memory's buffers, held. -/
theorem held_launch (d : Dev nD) : (unscopedBufs d (fun b => m ((SparseCore.T d : Thread nD τ).loc b)) : sProp 𝕄) = held (d.tc : Thread nD τ) (ucRefs τ sig) (val0 m d) :=
  Pipeline.unscopedBufs_held (Ix := HIx 2) (Name := ℕ) (U := UU) (Lvl := ℕ) d (fun b => m (d, b))

/-- The gathers' buffers held are the payloads of the two calls. -/
theorem held_gset (d : Dev nD) (W : Valuation τ sig (Elt F)) (h0 : W (rf main_arg0) = m (at_ d main_arg0)) (h1 : W (rf main_arg1) = m (at_ d main_arg1))
    (h2 : W (rf main_arg2) = m (at_ d main_arg2)) (h3 : W (rf main_arg3) = m (at_ d main_arg3)) :
    (held (d.tc : Thread nD τ) gset W : sProp 𝕄)
      = iprop(inPts m d fullShare ∗ outPts 0 d Finset.univ (W (rf main_v19)) ∗ outPts 1 d Finset.univ (W (rf main_v20))) := by
  unfold held gset
  rw [SparseCore.bigSep_insert' (by decide), SparseCore.bigSep_insert' (by decide), SparseCore.bigSep_insert' (by decide), SparseCore.bigSep_insert' (by decide),
    SparseCore.bigSep_insert' (by decide), bigSep_singleton, h0, h1, h2, h3]
  unfold inPts
  exact sep_four

theorem val1_keep (d : Dev nD) (r : Ref sig .tc) (hr : r ∈ [main_arg0, main_arg1, main_arg2, main_arg3, main_arg4, main_arg5, main_arg6, main_arg7, main_arg8, main_arg9, main_v19, main_v20]) :
    val1 m d (rf r) = m (at_ d r) := after_keep _ r hr

theorem val2_v19 (d : Dev nD) : val2 m d (rf main_v19) = gat m d 0 := by
  unfold val2
  rw [Function.update_of_ne (by decide), Function.update_self]

theorem val2_v20 (d : Dev nD) : val2 m d (rf main_v20) = gat m d 8192 := by
  unfold val2
  rw [Function.update_self]

theorem val2_of_ne (d : Dev nD) (b : DevRef τ sig) (h1 : b ≠ rf main_v19) (h2 : b ≠ rf main_v20) : val2 m d b = val1 m d b := by
  unfold val2
  rw [Function.update_of_ne h2, Function.update_of_ne h1]

/-- All buffers before the gathers: the calls' operands and the rest. -/
theorem held_before (d : Dev nD) : (held (d.tc : Thread nD τ) (ucRefs τ sig) (val1 m d) : sProp 𝕄)
    = iprop((inPts m d fullShare ∗ outPts 0 d Finset.univ (outOld m 0 d) ∗ outPts 1 d Finset.univ (outOld m 1 d)) ∗ held (d.tc : Thread nD τ) (ucRefs τ sig \ gset) (val1 m d)) := by
  rw [StableHlo.held_sub_split (d.tc : Thread nD τ) gset_sub, held_gset m d (val1 m d) (val1_keep m d _ (by decide)) (val1_keep m d _ (by decide)) (val1_keep m d _ (by decide)) (val1_keep m d _ (by decide)),
    val1_keep m d main_v19 (by decide), val1_keep m d main_v20 (by decide)]
  rfl

/-- All buffers after the gathers: the calls' results and the rest. -/
theorem held_after (d : Dev nD) : (held (d.tc : Thread nD τ) (ucRefs τ sig) (val2 m d) : sProp 𝕄)
    = iprop((inPts m d fullShare ∗ outPts 0 d Finset.univ (outNew m 0 d) ∗ outPts 1 d Finset.univ (outNew m 1 d)) ∗ held (d.tc : Thread nD τ) (ucRefs τ sig \ gset) (val1 m d)) := by
  have k (r : Ref sig .tc) (hr : r ∈ [main_arg0, main_arg1, main_arg2, main_arg3]) : val2 m d (rf r) = m (at_ d r) := by
    simp only [List.mem_cons, List.not_mem_nil, or_false] at hr
    rcases hr with rfl | rfl | rfl | rfl <;> exact (val2_of_ne m d _ (by decide) (by decide)).trans (val1_keep m d _ (by decide))
  rw [StableHlo.held_sub_split (d.tc : Thread nD τ) gset_sub, held_gset m d (val2 m d) (k _ (by decide)) (k _ (by decide)) (k _ (by decide)) (k _ (by decide)), val2_v19, val2_v20,
    StableHlo.held_congr (d.tc : Thread nD τ) (S := ucRefs τ sig \ gset) (V := val2 m d) (V' := val1 m d) fun b hb => by
      have hb' : b ∉ gset := (Finset.mem_sdiff.mp hb).2
      simp only [gset, Finset.mem_insert, Finset.mem_singleton, not_or] at hb'
      exact val2_of_ne m d b hb'.2.2.2.2.1 hb'.2.2.2.2.2]
  rfl

theorem st_eq (q : Fin 2) (d : Dev nD) : (bigSep Finset.univ fun c : Fin ((K (F := F)).nCore q) => ((P m).st q d c : sProp 𝕄))
    = iprop(inPts m d fullShare ∗ outPts q d Finset.univ (outOld m q d)) := call_eq m q d (outOld m q d)
theorem dn_eq (q : Fin 2) (d : Dev nD) : (bigSep Finset.univ fun c : Fin ((K (F := F)).nCore q) => ((P m).dn q d c : sProp 𝕄))
    = iprop(inPts m d fullShare ∗ outPts q d Finset.univ (outNew m q d)) := call_eq m q d (outNew m q d)

/-- The calls' records at the end: nothing is owed, and any recorded waits are below the last call's. -/
theorem tcSt_owes (d : Dev nD) :
    ((K (F := F)).tcSt EH d 2 : sProp 𝕄) ⊢ iprop((∃ W, owes (d.tc : Thread nD τ) (0 : CellTallies nD τ sig (HIx 2)) W)
      ∗ ((∃ W, owes (d.tc : Thread nD τ) (0 : CellTallies nD τ sig (HIx 2)) W) -∗ (K (F := F)).tcSt EH d 2)) := by
  unfold SparseCore.Cfg.tcSt
  rw [(K (F := F)).Otc_end d le_rfl]
  iintro ⟨⟨%W, -, HO⟩, Hrest⟩
  isplitl [HO]
  · iexists W; iexact HO
  iintro ⟨%W', HO⟩
  isplitl [HO]
  · iexists W'
    isplitr
    · ipureintro
      intro p _
      match p.2 with
      | none => exact Nat.zero_le _
      | some q => exact ((K (F := F)).lev_some_le _ q).trans (by have := q.isLt; show 8 * q.val + 7 ≤ 8 * 2; omega)
    · iexact HO
  · iexact Hrest

/-- What a device's host holds at the end. -/
abbrev FIN (d : Dev nD) : sProp 𝕄 := held (d.tc : Thread nD τ) (ucRefs τ sig) (val5 m d)

variable [∀ e, Nonempty (Elt F e)] (ρ : Dev nD → PrngReg)

/-- The host's program runs from the launch memory to `val5`. -/
theorem hmain (κ : GSem nD τ sig → ℕ) (d : Dev nD) :
    iprop((K (F := F)).ctx EH (P m) κ ∗ (K (F := F)).tcSt EH d 0 ∗ (K (F := F)).tcRes m ρ d ∗ (ghost 0 d ∗ ghost 1 d))
      ⊢ wp frame (wpE ((K (F := F)).defs D) 𝒱 (T d) none) Set.univ (main (F := F) d)
          fun _ => iprop((K (F := F)).tcSt EH d 2 ∗ FIN m d ∗ (K (F := F)).tcEnd d) := by
  unfold SparseCore.Cfg.tcRes SparseCore.Cfg.tcEnd
  rw [main_eq d, held_launch m d]
  iintro ⟨#Hctx, Hst, ⟨Hb, Hh, Hts, -⟩, Hg0, Hg1⟩
  iapply (StableHlo.wp_seq 𝒱 none Set.univ d (ucRefs τ sig) _ hostOps
    (fun op h => Pipeline.sub_ucRefs op ((List.forall_iff_forall_mem.mp hostOps_sub) op h))
    (fun op h => (List.forall_iff_forall_mem.mp hostOps_fresh) op h) (val0 m d)) $$ [Hb Hh]
  · isplitl [Hb]; · iexact Hb
    iexact Hh
  rw [show after hostOps (val0 m d) = val1 m d from rfl, held_before]
  iintro ⟨Hb, Hh'⟩
  icases Hh' with ⟨⟨Hin, Ho0, Ho1⟩, Hrest⟩
  unfold rest
  simp only [wp_bind]
  -- the first gather
  iapply ((K (F := F)).wp_run D 𝒱 (EH := EH) (P := P m) κ d 0) $$ [Hst Hin Ho0 Ho1 Hrest Hb Hts Hg0 Hg1]
  isplitr; · iexact Hctx
  isplitl [Hst]; · iexact Hst
  isplitl [Hin Ho0]
  · rw [st_eq]
    isplitl [Hin]; · iexact Hin
    iexact Ho0
  iintro ⟨Hst, Hdn⟩
  ihave Hdn' := (Entails.of_eq (dn_eq m 0 d)) $$ Hdn
  icases Hdn' with ⟨Hin, Ho0⟩
  -- the second
  iapply ((K (F := F)).wp_run D 𝒱 (EH := EH) (P := P m) κ d 1) $$ [Hst Hin Ho0 Ho1 Hrest Hb Hts Hg0 Hg1]
  isplitr; · iexact Hctx
  isplitl [Hst]; · iexact Hst
  isplitl [Hin Ho1]
  · rw [st_eq]
    isplitl [Hin]; · iexact Hin
    iexact Ho1
  rw [show ((1 : Fin 2).val + 1) = 2 from rfl]
  iintro ⟨Hst, Hdn⟩
  ihave Hdn' := (Entails.of_eq (dn_eq m 1 d)) $$ Hdn
  icases Hdn' with ⟨Hin, Ho1⟩
  ihave Hh := (Entails.of_eq (held_after m d).symm) $$ [Hin Ho0 Ho1 Hrest]
  · isplitr [Hrest]
    · isplitl [Hin]; · iexact Hin
      isplitl [Ho0]; · iexact Ho0
      iexact Ho1
    iexact Hrest
  ihave Hst' := (tcSt_owes d) $$ Hst
  icases Hst' with ⟨HO, Hst⟩
  -- the two TensorCore kernels
  iapply (region_wp (val2 m) 0 d) $$ [Hb Hh HO Hg0 Hg1 Hts Hst]
  isplitl [Hb]; · iexact Hb
  isplitl [Hh]; · iexact Hh
  isplitl [HO]; · iexact HO
  isplitr; · iapply (SparseCore.Cfg.ctx_levAts κ); iexact Hctx
  isplitl [Hg0]; · iexact Hg0
  rw [show afterRegion (pdats (val2 m) 0 d) (val2 m d) = val3 m d from rfl]
  iintro ⟨Hb, Hh, HO⟩
  iapply (region_wp (val3 m) 1 d) $$ [Hb Hh HO Hg1 Hts Hst]
  isplitl [Hb]; · iexact Hb
  isplitl [Hh]; · iexact Hh
  isplitl [HO]; · iexact HO
  isplitr; · iapply (SparseCore.Cfg.ctx_levAts κ); iexact Hctx
  isplitl [Hg1]; · iexact Hg1
  rw [show afterRegion (pdats (val3 m) 1 d) (val3 m d) = val4 m d from rfl]
  iintro ⟨Hb, Hh, HO⟩
  -- the concatenation
  iapply (StableHlo.wp_hlo_within 𝒱 (d.tc : Thread nD τ) none Set.univ (op := joinOp) (S := ucRefs τ sig)
    (Pipeline.sub_ucRefs joinOp (StableHlo.binary_bufs_sub ..)) (V := val4 m d)) $$ [Hb Hh]
  · isplitl [Hb]; · iexact Hb
    iexact Hh
  rw [show joinOp.result (val4 m d) = val5 m d from rfl, wp_ret]
  iintro ⟨Hb, Hh⟩
  imodintro
  isplitl [Hst HO]
  · iapply Hst; iexact HO
  isplitl [Hh]; · iexact Hh
  isplitl [Hb] <;> iassumption

end Cert.Proof
end
-- ==== Proof.Run.lean ====
module

public import proofs.«01_k».proof.Proof.Main

/-!
# The program's run

From a launch memory whose ids are rows of the tables, every execution of the whole machine ends with every buffer of the host
at the contents the host's steps leave, and with every semaphore back at zero.
-/

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore (S V)
open Idealize.ShloMosaic.SparseCore.Cfg (HIx Pay)
open Idealize.ShloMosaic.Pipeline (ucRefs afterRegion arrRefs cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)

variable {F : FTy → Type} [FloatOps F]

local notation "𝕄" => MT nD τ sig (HIx 2) (Elt F) ℕ UU ℕ

variable (m : (ℓ : Loc nD τ sig) → Buf (Elt F) ℓ) (ρ : Dev nD → PrngReg)

/-- The pipelines' cells and their tokens at the launch. -/
def uP : UP := initOf (Pipeline.cells (Pipeline.pin (pcfgs (F := F)) adm) pin_inj) (Pipeline.launchToks (Pipeline.pin (pcfgs (F := F)) adm) pin_inj)

/-- The handshakes' cells, the pipelines', and no transfer under way. -/
def u₀ : UU := (initOf (K (F := F)).hsCells (K (F := F)).hsToks, (uP (F := F), 1))

theorem own_split : (ownU (u₀ (F := F)) : sProp 𝕄) ⊢ iprop(BI.own (EH (F := F) (initOf (K (F := F)).hsCells (K (F := F)).hsToks)) ∗ BI.own (EP (F := F) (uP (F := F)))) := by
  unfold u₀
  refine (ownU_pair _ _).trans (sep_mono .rfl ((own_pair_emb _ _ _).trans ?_))
  exact sep_elim_left

theorem shuffle {A A' B B' : sProp 𝕄} : iprop((A ∗ A') ∗ (B ∗ B')) ⊢ iprop((A ∗ B) ∗ (A' ∗ B')) := by
  iintro ⟨⟨HA, HA'⟩, HB, HB'⟩
  isplitl [HA HB]
  · isplitl [HA] <;> iassumption
  · isplitl [HA'] <;> iassumption

/-- Two pipelines' shares of every device's ghost state, dealt device by device. -/
theorem deal {A B : Dev nD → Fin 2 → sProp 𝕄} :
    iprop((bigSep Finset.univ fun d => bigSep Finset.univ fun p => A d p) ∗ (bigSep Finset.univ fun d => bigSep Finset.univ fun p => B d p))
      ⊢ bigSep Finset.univ fun d : Dev nD => iprop((A d 0 ∗ B d 0) ∗ (A d 1 ∗ B d 1)) := by
  rw [← bigSep_sep']
  refine bigSep_mono fun d _ => ?_
  rw [show (Finset.univ : Finset (Fin 2)) = {0, 1} from rfl, SparseCore.bigSep_insert' (by decide), bigSep_singleton, SparseCore.bigSep_insert' (by decide), bigSep_singleton]
  exact shuffle

theorem launch_ghost : (BI.own (EP (F := F) (uP (F := F))) : sProp 𝕄) ⊢ |={Set.univ}=> bigSep Finset.univ fun d : Dev nD => iprop(ghost 0 d ∗ ghost 1 d) := by
  unfold uP ghost
  iintro Hu
  imod (Pipeline.fund_ghost (Pipeline.pin (pcfgs (F := F)) adm) EP pin_inj) $$ Hu with H
  imodintro
  iapply (deal (A := fun d p => cellsGhost (Pipeline.pin (pcfgs (F := F)) adm) EP p d) (B := fun d p => toksInit (Pipeline.pin (pcfgs (F := F)) adm) EP p d))
  iexact H

theorem launch_own : (ownU (u₀ (F := F)) : sProp 𝕄)
    ⊢ |={Set.univ}=> iprop(BI.own (EH (F := F) (initOf (K (F := F)).hsCells (K (F := F)).hsToks)) ∗ (bigSep Finset.univ fun d : Dev nD => iprop(ghost 0 d ∗ ghost 1 d))
        ∗ bigSep Finset.univ fun thr : Thread nD τ => bigSep Finset.univ fun q : Fin 2 => (P m).x q thr) := by
  have hx : (bigSep Finset.univ fun thr : Thread nD τ => bigSep Finset.univ fun q : Fin 2 => ((P m).x q thr : sProp 𝕄)) = iprop(emp) := by
    rw [show (fun thr : Thread nD τ => bigSep Finset.univ fun q : Fin 2 => ((P m).x q thr : sProp 𝕄)) = fun _ => iprop(emp) from
      funext fun _ => bigSep_emp_const Finset.univ]
    exact bigSep_emp_const Finset.univ
  rw [hx]
  iintro Hu
  ihave H := own_split $$ Hu
  icases H with ⟨HH, HP⟩
  imod launch_ghost $$ HP with HG
  imodintro
  isplitl [HH]; · iexact HH
  isplitl [HG]; · iexact HG
  iempintro

/-- Every buffer of a device's host is at the last contents. -/
def fq (d : Dev nD) (s : Phys nD τ sig (Elt F)) : Prop := ∀ b ∈ ucRefs τ sig, s.mem.mem (d, b) = val5 m d b

theorem held_agree (d : Dev nD) (W : Valuation τ sig (Elt F)) (s : Phys nD τ sig (Elt F)) (b : DevRef τ sig) (hb : b ∈ ucRefs τ sig) :
    iprop(held (d.tc : Thread nD τ) (ucRefs τ sig) W ∗ SI s) ⊢ (⌜s.mem.mem (d, b) = W b⌝ : sProp 𝕄) := by
  unfold held
  have h : (bigSep (ucRefs τ sig) fun b => (((d.tc : Thread nD τ).1, b) ↦{fullShare} W b) : sProp 𝕄) ⊢ (((d, b) : Loc nD τ sig) ↦{fullShare} W b) :=
    bigSep_elim (Φ := fun b => (((d, b) : Loc nD τ sig) ↦{fullShare} W b)) hb
  iintro ⟨H, HSI⟩
  ihave H' := h $$ H
  ihave H := (SI_pointsTo_agree (st := s) (ℓ := (d, b)) (I := Finset.univ) (q := fullShare) (f := W b)) $$ [HSI H']
  · isplitl [HSI] <;> iassumption
  icases H with %h1
  ipureintro; exact funext fun i => h1 i (Finset.mem_univ i)

theorem hfin (d : Dev nD) (s : Phys nD τ sig (Elt F)) : iprop(FIN m d ∗ SI s) ⊢ (⌜fq m d s⌝ : sProp 𝕄) := by
  exact fun x hx b hb => held_agree d _ s b hb x hx

variable [∀ e, Nonempty (Elt F e)]

/-- The run: every host buffer at the last contents, every counter at zero. -/
theorem run_main (hpre : PreOK m) :
    θ_run (Cert.KernelIdeal.defs (F := F)) (Cert.KernelIdeal.threads (F := F)) ⟨m, fun _ => 0, ρ⟩
      (fun r => (∀ d : Dev nD, ∀ b ∈ ucRefs τ sig, r.2.mem (d, b) = val5 m d b) ∧ r.2.sem = fun _ => 0) :=
  SparseCore.Cfg.θ_run_sc_quiescent (K := K (F := F)) (D := D) (𝒱 := 𝒱) (EH := EH) (P := P m) (A := ∅) scFacts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main (fun d => iprop(ghost 0 d ∗ ghost 1 d)) (FIN m) (u₀ (F := F)) (sep_elim_left.trans (launch_own m)) (hmain m ρ) (fq m) (hfin m) _ (fun _ h hz => ⟨h, hz⟩)

end Cert.Proof
end
-- ==== Proof.Result.lean ====
module

public import proofs.«01_k».proof.Proof.Run

/-!
# What the last contents are

The arguments as they were at the launch, and the result the concatenation of the two halves' perceptron values.
-/

@[expose] public section

noncomputable section

namespace Cert.Proof

open Cert.KernelIdeal Cert.KernelIdeal.Gen
open Idealize.ShloMosaic
open Idealize.ShloMosaic.TcCoe Idealize.ShloMosaic.Tactic
open Idealize.ShloMosaic.Pipeline (ucRefs afterRegion arrRefs arrRef)
open Idealize.SL.Sem

variable {F : FTy → Type} [FloatOps F]
variable (m : (ℓ : Loc nD τ sig) → Buf (Elt F) ℓ)

/-- The kernel's ten arguments. -/
abbrev argRefs : List (Ref sig .tc) := [main_arg0, main_arg1, main_arg2, main_arg3, main_arg4, main_arg5, main_arg6, main_arg7, main_arg8, main_arg9]

theorem inj (p : Fin 2) : Function.Injective (arrRef (Pipeline.pin (pcfgs (F := F)) adm p).spec) := by
  match p with
  | ⟨0, _⟩ => exact winFacts2.arr_inj
  | ⟨1, _⟩ => exact winFacts3.arr_inj

theorem out2 (r : Ref sig .tc) (hr : r ≠ main_v21) (w : Fin 5) (hw : arrRef spec2 w = r) : (cfg2.win w).isOut = false := by
  subst hw
  match w with
  | 0 => rfl
  | 1 => rfl
  | 2 => rfl
  | 3 => rfl
  | 4 => exact absurd rfl hr

theorem out3 (r : Ref sig .tc) (hr : r ≠ main_v22) (w : Fin 5) (hw : arrRef spec3 w = r) : (cfg3.win w).isOut = false := by
  subst hw
  match w with
  | 0 => rfl
  | 1 => rfl
  | 2 => rfl
  | 3 => rfl
  | 4 => exact absurd rfl hr

/-- The first TensorCore kernel changes its result array alone; -/
theorem val3_of_ne (d : Dev nD) (r : Ref sig .tc) (hr : r ≠ main_v21) : val3 m d (rf r) = val2 m d (rf r) :=
  Pipeline.afterRegion_keeps (pdats (val2 m) 0 d) (val2 m d) (inj 0) (A_eq (val2 m) 0 d) r (out2 r hr)

/-- so does the second. -/
theorem val4_of_ne (d : Dev nD) (r : Ref sig .tc) (hr : r ≠ main_v22) : val4 m d (rf r) = val3 m d (rf r) :=
  Pipeline.afterRegion_keeps (pdats (val3 m) 1 d) (val3 m d) (inj 1) (A_eq (val3 m) 1 d) r (out3 r hr)

theorem val5_of_ne (d : Dev nD) (r : Ref sig .tc) (hr : r ≠ main_v23) : val5 m d (rf r) = val4 m d (rf r) :=
  StableHlo.binary_result_ne _ _ _ _ _ _ _ (val4 m d) hr

theorem val3_v21 (d : Dev nD) : val3 m d (rf main_v21) = mlp (gat m d 0) (val2 m d (rf main_v0)) (val2 m d (rf main_v1)) (val2 m d (rf main_v18)) := by
  rw [← val2_v19 m d]
  exact (Pipeline.afterRegion_arr (pdats (val2 m) 0 d) (val2 m d) (inj 0) 4).trans (arr2 (val2 m) d)

theorem val4_v22 (d : Dev nD) : val4 m d (rf main_v22) = mlp (gat m d 8192) (val2 m d (rf main_v0)) (val2 m d (rf main_v1)) (val2 m d (rf main_v18)) := by
  rw [← val2_v20 m d, ← val3_of_ne m d main_v20 (by decide), ← val3_of_ne m d main_v0 (by decide), ← val3_of_ne m d main_v1 (by decide), ← val3_of_ne m d main_v18 (by decide)]
  exact (Pipeline.afterRegion_arr (pdats (val3 m) 1 d) (val3 m d) (inj 1) 4).trans (arr3 (val3 m) d)

/-- The weights of the first layer as the kernel uses them; -/
def w1Of (d : Dev nD) : Arr F S256x1024 .bf16 := truncf .bf16 (m (at_ d main_arg4) : Arr F S256x1024 .f32) bitsLt_bf16_f32
/-- of the second; -/
def w2Of (d : Dev nD) : Arr F S1024x512 .bf16 := truncf .bf16 (m (at_ d main_arg6) : Arr F S1024x512 .f32) bitsLt_bf16_f32
/-- and the packed rest. -/
def pkOf (d : Dev nD) : Arr F S3x1024 .f32 := packOf (m (at_ d main_arg5)) (m (at_ d main_arg7)) (m (at_ d main_arg8)) (m (at_ d main_arg9))

theorem val2_v0 (d : Dev nD) : val2 m d (rf main_v0) = w1Of m d := (val2_of_ne m d _ (by decide) (by decide)).trans (after_w1 _)
theorem val2_v1 (d : Dev nD) : val2 m d (rf main_v1) = w2Of m d := (val2_of_ne m d _ (by decide) (by decide)).trans (after_w2 _)
theorem val2_v18 (d : Dev nD) : val2 m d (rf main_v18) = pkOf m d := (val2_of_ne m d _ (by decide) (by decide)).trans (after_pack _)

/-- The kernel's result: the values at the first 8192 rows, then at the others. -/
def resultOf (d : Dev nD) : Arr F S16384 .f32 :=
  concatenate S16384 0 [⟨S8192, (mlp (gat m d 0) (w1Of m d) (w2Of m d) (pkOf m d) : Arr F S8192 .f32)⟩,
    ⟨S8192, (mlp (gat m d 8192) (w1Of m d) (w2Of m d) (pkOf m d) : Arr F S8192 .f32)⟩] concatenates_S8192_S8192_S16384_d0

theorem val5_result (d : Dev nD) : val5 m d (rf main_v23) = resultOf m d := by
  have h : val5 m d (rf main_v23) = concatenate S16384 0 [⟨S8192, (val4 m d (rf main_v21) : Arr F S8192 .f32)⟩, ⟨S8192, (val4 m d (rf main_v22) : Arr F S8192 .f32)⟩] concatenates_S8192_S8192_S16384_d0 :=
    StableHlo.binary_result ..
  rw [h, val4_of_ne m d main_v21 (by decide), val3_v21, val4_v22, val2_v0, val2_v1, val2_v18]
  rfl

theorem val5_arg (d : Dev nD) (r : Ref sig .tc) (hr : r ∈ argRefs) : val5 m d (rf r) = m (at_ d r) := by
  have hne : r ≠ main_v23 ∧ r ≠ main_v22 ∧ r ≠ main_v21 ∧ rf r ≠ rf main_v19 ∧ rf r ≠ rf main_v20 := by revert r; decide
  rw [val5_of_ne m d r hne.1, val4_of_ne m d r hne.2.1, val3_of_ne m d r hne.2.2.1, val2_of_ne m d _ hne.2.2.2.1 hne.2.2.2.2]
  exact val1_keep m d r (by revert r; decide)

theorem arg_uc (r : Ref sig .tc) (hr : r ∈ argRefs) : rf r ∈ ucRefs τ sig := by revert r; decide

variable (ρ : Dev nD → PrngReg) [∀ e, Nonempty (Elt F e)]

/-- The whole run, read off: the arguments unchanged, the result `resultOf`, every counter at zero. -/
theorem run (hpre : PreOK m) :
    θ_run (Cert.KernelIdeal.defs (F := F)) (Cert.KernelIdeal.threads (F := F)) ⟨m, fun _ => 0, ρ⟩
      (fun r => (∀ d : Dev nD, (∀ b ∈ argRefs, r.2.mem (at_ d b) = m (at_ d b)) ∧ r.2.mem (at_ d main_v23) = resultOf m d) ∧ r.2.sem = fun _ => 0) :=
  (θ_run (Cert.KernelIdeal.defs (F := F)) _ _).mono
    (fun _ h => ⟨fun d => ⟨fun b hb => (h.1 d (rf b) (arg_uc b hb)).trans (val5_arg m d b hb), (h.1 d (rf main_v23) (by decide)).trans (val5_result m d)⟩, h.2⟩)
    (run_main m ρ hpre)

end Cert.Proof
end
-- ==== Proof.Value.lean ====
module

public import proofs.«01_k».proof.Proof.Row
public import proofs.«01_k».proof.Proof.Result

/-!
# The kernel's result, element by element

Over the extended reals the kernel's result at position `j` is the perceptron's value of the two rows that the `j`-th
indices name, side by side.
-/

@[expose] public section

noncomputable section

namespace Cert.Proof

open Cert.KernelIdeal Cert.KernelIdeal.Gen
open Idealize.ShloMosaic

/-- The rows of the two tables that the `j`-th indices name, side by side. -/
def rowAt (pol tick : S100000x128.Idx → EReal) (pid tid : S16384.Idx → BitVec 32) (j : ℕ) (i : Fin 256) : EReal :=
  if i.val < 128 then tabAt pol (idAt pid j) i.val else tabAt tick (idAt tid j) (i.val - 128)

/-- The result at position `j`. -/
def specAt (pid tid : S16384.Idx → BitVec 32) (pol tick : S100000x128.Idx → EReal) (w1 : S256x1024.Idx → EReal) (b1 : S1024.Idx → EReal)
    (w2 : S1024x512.Idx → EReal) (b2 : S512.Idx → EReal) (w3 : S512x1.Idx → EReal) (b3 : S1.Idx → EReal) (j : ℕ) : EReal :=
  rowVal (rowAt pol tick pid tid j) w1 b1 w2 b2 w3 b3

variable (pid tid : S16384.Idx → BitVec 32) (pol tick : S100000x128.Idx → EReal) (w1 : S256x1024.Idx → EReal) (b1 : S1024.Idx → EReal)
  (w2 : S1024x512.Idx → EReal) (b2 : S512.Idx → EReal) (w3 : S512x1.Idx → EReal) (b3 : S1.Idx → EReal)

/-- A half's values are the specified ones from that half's first position on. -/
theorem mlp_at (base : ℕ) (k : Fin 8192) :
    mlp (F := Ideal) (rowsOf pol tick pid tid base) w1 w2 (packOf (F := Ideal) b1 b2 w3 b3) (ix1 k) = specAt pid tid pol tick w1 b1 w2 b2 w3 b3 (base + k.val) := by
  have hi : inBlk k.val = ix1 ⟨k.val % 2048, Nat.mod_lt _ (by decide)⟩ := by
    funext a
    match a with
    | ⟨0, _⟩ => rfl
  unfold mlp specAt
  show blockOf (F := Ideal) (rowBlk (rowsOf pol tick pid tid base) (k.val / 2048)) w1 w2 (packOf (F := Ideal) b1 b2 w3 b3) (inBlk k.val) = _
  rw [hi, blockOf_eq]
  refine congrArg (fun x => rowVal x w1 b1 w2 b2 w3 b3) (funext fun i => ?_)
  show (if i.val < 128 then tabAt pol (idAt pid (base + (2048 * (k.val / 2048) + k.val % 2048) % 8192)) i.val
    else tabAt tick (idAt tid (base + (2048 * (k.val / 2048) + k.val % 2048) % 8192)) (i.val - 128)) = _
  have hk := k.isLt
  rw [show (2048 * (k.val / 2048) + k.val % 2048) % 8192 = k.val by omega]
  rfl

variable (m : (ℓ : Loc nD τ sig) → Buf (Elt Ideal) ℓ)

/-- The kernel's result at a position. -/
theorem resultOf_at (d : Dev nD) (j : Fin 16384) :
    resultOf (F := Ideal) m d (ix1 j) = specAt (m (at_ d main_arg0)) (m (at_ d main_arg1)) (m (at_ d main_arg2)) (m (at_ d main_arg3)) (m (at_ d main_arg4))
      (m (at_ d main_arg5)) (m (at_ d main_arg6)) (m (at_ d main_arg7)) (m (at_ d main_arg8)) (m (at_ d main_arg9)) j.val := by
  unfold resultOf
  pointwise
  have hj := j.isLt
  split
  · next h => exact (mlp_at _ _ _ _ _ _ _ _ _ _ 0 ⟨j.val, h⟩).trans (by rw [Nat.zero_add]; rfl)
  · next h => exact (mlp_at _ _ _ _ _ _ _ _ _ _ 8192 ⟨j.val - 8192, by omega⟩).trans (by rw [show 8192 + (j.val - 8192) = j.val by omega]; rfl)

end Cert.Proof
end
-- ==== Proof.RefValue.lean ====
module

public import proofs.«01_k».proof.Proof.Take
public import proofs.«01_k».proof.Proof.Value

/-!
# The reference's result, element by element

Over the extended reals, where the indices are in range, the reference's result at position `j` is the perceptron's value
of the two rows that the `j`-th indices name, side by side.
-/

@[expose] public section

noncomputable section

namespace Cert.Proof

open Cert.ReferenceIdeal Cert.ReferenceIdeal.Gen
open Idealize.ShloMosaic Idealize.ShloMosaic.TcCoe

variable {F : FTy → Type} [FloatOps F]

/-- The two tables' rows side by side. -/
def sideBySide (a b : Arr F S16384x128 .f32) : Arr F S16384x256 .f32 :=
  concatenate S16384x256 1 [⟨S16384x128, a⟩, ⟨S16384x128, b⟩] concatenates_S16384x128_S16384x128_S16384x256_d1

/-- The first layer. -/
def layer1 (h : Arr F S16384x256 .f32) (w1 : Arr F S256x1024 .f32) (b1 : Arr F S1024 .f32) : Arr F S16384x1024 .f32 :=
  maximumf (addf (Host.dotGeneral dot_S16384x256_S256x1024_S16384x1024_1_0_0_1_n_n none h w1)
    (broadcastInDim S16384x1024 ![0, 1] bcast_S1x1024_S16384x1024_0_1 (broadcastInDim S1x1024 ![1] bcast_S1024_S1x1024_1 b1)))
    (broadcastInDim S16384x1024 ![] bcast_S_S16384x1024 (constant S_ .f32 0x00000000#32))

/-- The second layer. -/
def layer2 (h : Arr F S16384x1024 .f32) (w2 : Arr F S1024x512 .f32) (b2 : Arr F S512 .f32) : Arr F S16384x512 .f32 :=
  maximumf (addf (Host.dotGeneral dot_S16384x1024_S1024x512_S16384x512_1_0_0_1_n_n none h w2)
    (broadcastInDim S16384x512 ![0, 1] bcast_S1x512_S16384x512_0_1 (broadcastInDim S1x512 ![1] bcast_S512_S1x512_1 b2)))
    (broadcastInDim S16384x512 ![] bcast_S_S16384x512 (constant S_ .f32 0x00000000#32))

/-- The last layer, as a vector. -/
def layer3 (h : Arr F S16384x512 .f32) (w3 : Arr F S512x1 .f32) (b3 : Arr F S1 .f32) : Arr F S16384 .f32 :=
  shapeCast S16384 (addf (Host.dotGeneral dot_S16384x512_S512x1_S16384x1_1_0_0_1_n_n none h w3)
    (broadcastInDim S16384x1 ![0, 1] bcast_S1x1_S16384x1_0_1 (broadcastInDim S1x1 ![1] bcast_S1_S1x1_1 b3)) : Arr F S16384x1 .f32) shapeCasts_S16384x1_S16384

/-- The reference's result is its layers, one after the other. -/
theorem res_eq (m : (ℓ : Loc nD τ sig) → Buf (Elt F) ℓ) (c : Dev nD) :
    Value.res_main_v17 m c
      = layer3 (layer2 (layer1 (sideBySide (takeOf (m (c.tc.loc main_arg2)) (m (c.tc.loc main_arg0))) (takeOf (m (c.tc.loc main_arg3)) (m (c.tc.loc main_arg1))))
          (m (c.tc.loc main_arg4)) (m (c.tc.loc main_arg5))) (m (c.tc.loc main_arg6)) (m (c.tc.loc main_arg7))) (m (c.tc.loc main_arg8)) (m (c.tc.loc main_arg9)) := rfl

set_option maxRecDepth 16384 in
/-- The layers' value at a position is the perceptron's value of that row. -/
theorem layers_at (h : Arr Ideal S16384x256 .f32) (w1 : Arr Ideal S256x1024 .f32) (b1 : Arr Ideal S1024 .f32) (w2 : Arr Ideal S1024x512 .f32)
    (b2 : Arr Ideal S512 .f32) (w3 : Arr Ideal S512x1 .f32) (b3 : Arr Ideal S1 .f32) (j : Fin 16384) :
    layer3 (layer2 (layer1 h w1 b1) w2 b2) w3 b3 (ix1 j) = rowVal (fun i => h (ix2 j i)) w1 b1 w2 b2 w3 b3 := by
  unfold layer3 layer2 layer1 rowVal
  pointwise

/-- Where the indices are in range, the rows side by side are the rows that the indices name. -/
theorem sideBySide_at (pol tick : Arr Ideal S100000x128 .f32) (pid tid : Arr Ideal S16384 .i32) (hp : ∀ j, (pid j).toNat < 100000)
    (ht : ∀ j, (tid j).toNat < 100000) (j : Fin 16384) (i : Fin 256) :
    sideBySide (takeOf pol pid) (takeOf tick tid) (ix2 j i) = rowAt pol tick pid tid j.val i := by
  unfold sideBySide rowAt
  pointwise
  have hi := i.isLt
  split
  · next h =>
    exact (takeOf_at pol pid hp j ⟨i.val, h⟩).trans ((tabAt_eq pol _ _ _ (idAt_eq pid _ (ix1 j) rfl).symm rfl)).symm
  · next h =>
    exact (takeOf_at tick tid ht j ⟨i.val - 128, by omega⟩).trans ((tabAt_eq tick _ _ _ (idAt_eq tid _ (ix1 j) rfl).symm rfl)).symm

/-- The reference's result at a position. -/
theorem res_at (m : (ℓ : Loc nD τ sig) → Buf (Elt Ideal) ℓ) (c : Dev nD) (hp : ∀ j, ((m (c.tc.loc main_arg0) : Arr Ideal S16384 .i32) j).toNat < 100000)
    (ht : ∀ j, ((m (c.tc.loc main_arg1) : Arr Ideal S16384 .i32) j).toNat < 100000) (j : Fin 16384) :
    (Value.res_main_v17 m c : Arr Ideal S16384 .f32) (ix1 j)
      = specAt (m (c.tc.loc main_arg0)) (m (c.tc.loc main_arg1)) (m (c.tc.loc main_arg2)) (m (c.tc.loc main_arg3)) (m (c.tc.loc main_arg4))
          (m (c.tc.loc main_arg5)) (m (c.tc.loc main_arg6)) (m (c.tc.loc main_arg7)) (m (c.tc.loc main_arg8)) (m (c.tc.loc main_arg9)) j.val := by
  rw [res_eq]
  refine (layers_at _ _ _ _ _ _ _ j).trans ?_
  unfold specAt
  exact congrArg (fun x => rowVal x _ _ _ _ _ _) (funext fun i => sideBySide_at _ _ _ _ hp ht j i)

end Cert.Proof
end
-- ==== Proof.Pre.lean ====
module

public import proofs.«01_k».proof.Proof.Result
public import proofs.«01_k».proof.Defs
public import proofs.«01_k».proof.Proof.Gen.Pre_ids_in_range
public import Idealize.ShloMosaic.Lib.ReduceAll

/-!
# What the precondition says

The precondition is a conjunction of four tests over the two arrays of indices. Where it is true, every index of both
arrays is below 100000.
-/

@[expose] public section

noncomputable section

namespace Cert.Proof

open Idealize.ShloMosaic
open Cert.Pre_ids_in_range

variable {F : FTy → Type} [FloatOps F]

/-- The predicate's result has one element. -/
instance : Subsingleton S_.Idx := ⟨fun _ _ => funext fun i => i.elim0⟩

/-- An index read as a signed number between 0 and 100000 is, read as a natural number, below 100000. -/
theorem toNat_of_signed (x : BitVec 32) (h0 : 0 ≤ x.toInt) (h1 : x.toInt < 100000) : x.toNat < 100000 := by
  rw [BitVec.toInt_eq_toNat_cond] at h0 h1
  have := x.isLt
  split at h0 <;> split at h1 <;> omega

attribute [local instance] Cert.Pre_ids_in_range.Gen.facts in
/-- Where the precondition is true, each index of the two arrays is below 100000. -/
theorem ids_lt (a0 a1 : IVec S16384 32) (a2 a3 : FVec F S100000x128 .f32) (a4 : FVec F S256x1024 .f32) (a5 : FVec F S1024 .f32)
    (a6 : FVec F S1024x512 .f32) (a7 : FVec F S512 .f32) (a8 : FVec F S512x1 .f32) (a9 : FVec F S1 .f32)
    (h : fn (F := F) a0 a1 a2 a3 a4 a5 a6 a7 a8 a9 = fun _ => 1#1) (j : S16384.Idx) :
    (a0 j).toNat < 100000 ∧ (a1 j).toNat < 100000 := by
  have e := congrFun h (Shape.Idx.first (s := S_) (by decide))
  obtain ⟨e, e3⟩ := IntOp.andi_eq_one.1 e
  obtain ⟨e, e2⟩ := IntOp.andi_eq_one.1 e
  obtain ⟨e0, e1⟩ := IntOp.andi_eq_one.1 e
  exact ⟨toNat_of_signed _ (IntOp.cmpi_sge.1 (Host.reduce_andi_all _ _ _ _ _ e0 j)) (IntOp.cmpi_slt.1 (Host.reduce_andi_all _ _ _ _ _ e1 j)),
    toNat_of_signed _ (IntOp.cmpi_sge.1 (Host.reduce_andi_all _ _ _ _ _ e2 j)) (IntOp.cmpi_slt.1 (Host.reduce_andi_all _ _ _ _ _ e3 j))⟩

end Cert.Proof
end
-- ==== Proof.Frames.lean ====
module

public import proofs.«01_k».proof.Proof.Pre
public import proofs.«01_k».proof.Proof.Gen.Kernel
public import proofs.«01_k».proof.Proof.Gen.ReferenceIdeal.Run

/-!
# The frames

The kernel's run, read at its arguments and its counters, at words and at ideal numbers; the reference's run, read
likewise.
-/

@[expose] public section

noncomputable section

namespace Cert.Proof

open Idealize.ShloMosaic Idealize.SL.Sem

attribute [local instance] Cert.Kernel.Gen.facts Cert.KernelIdeal.Gen.facts Cert.ReferenceIdeal.Gen.facts Cert.Pre_ids_in_range.Gen.facts

/-- The ten arguments unchanged, as one conjunction. -/
theorem args_of {F : FTy → Type} [FloatOps F] {m m' : (ℓ : Loc KernelIdeal.nD KernelIdeal.τ KernelIdeal.sig) → Buf (Elt F) ℓ} {d : Dev KernelIdeal.nD}
    (h : ∀ b ∈ argRefs, m' (at_ d b) = m (at_ d b)) :
    m' (at_ d KernelIdeal.main_arg0) = m (at_ d KernelIdeal.main_arg0) ∧ m' (at_ d KernelIdeal.main_arg1) = m (at_ d KernelIdeal.main_arg1)
    ∧ m' (at_ d KernelIdeal.main_arg2) = m (at_ d KernelIdeal.main_arg2) ∧ m' (at_ d KernelIdeal.main_arg3) = m (at_ d KernelIdeal.main_arg3)
    ∧ m' (at_ d KernelIdeal.main_arg4) = m (at_ d KernelIdeal.main_arg4) ∧ m' (at_ d KernelIdeal.main_arg5) = m (at_ d KernelIdeal.main_arg5)
    ∧ m' (at_ d KernelIdeal.main_arg6) = m (at_ d KernelIdeal.main_arg6) ∧ m' (at_ d KernelIdeal.main_arg7) = m (at_ d KernelIdeal.main_arg7)
    ∧ m' (at_ d KernelIdeal.main_arg8) = m (at_ d KernelIdeal.main_arg8) ∧ m' (at_ d KernelIdeal.main_arg9) = m (at_ d KernelIdeal.main_arg9) := by
  refine ⟨h _ ?_, h _ ?_, h _ ?_, h _ ?_, h _ ?_, h _ ?_, h _ ?_, h _ ?_, h _ ?_, h _ ?_⟩ <;> decide

/-- At ideal numbers the kernel ends with its arguments unchanged and every counter at zero. -/
theorem frame_kernelIdeal : Cert.quiescent_KernelIdeal := fun m ρ hp =>
  (θ_run Cert.KernelIdeal.defs _ _).mono (fun _ h => ⟨fun c => args_of (h.1 c).1, h.2⟩)
    (run (F := Ideal) m ρ fun d j => ids_lt _ _ _ _ _ _ _ _ _ _ (hp d) j)

set_option maxHeartbeats 2000000 in
/-- The bodies that the kernel's labels name are the same text under both readings. -/
theorem bodies_eq {F : FTy → Type} [FloatOps F] : Cert.Kernel.defs₀ (F := F) = Cert.KernelIdeal.defs₀ := by
  funext p ℓ a
  match p, ℓ, a with
  | .scVector _ _, 0, _ => rfl
  | .scVector _ _, 1, _ => rfl
  | .scVector _ _, 2, _ => rfl
  | .scVector _ _, 3, _ => rfl
  | .scScalar _, 0, _ => rfl
  | .scScalar _, 1, _ => rfl
  | .scScalar _, 2, _ => rfl
  | .scScalar _, 3, _ => rfl
  | .tc, 0, _ => rfl
  | .tc, 1, _ => rfl
  | .tc, 2, (_, _) => rfl
  | .tc, 3, (_, _) => rfl

set_option maxHeartbeats 2000000 in
/-- So are the bodies with the pipelines and the launches around them. -/
theorem defs_eq {F : FTy → Type} [FloatOps F] : Cert.Kernel.defs (F := F) = Cert.KernelIdeal.defs :=
  congrArg (fun e => Cert.KernelIdeal.sc.defs (Pipeline.defs Cert.KernelIdeal.pcfgs e)) bodies_eq

set_option maxHeartbeats 2000000 in
/-- At words the kernel ends with its arguments unchanged and every counter at zero. -/
theorem frame_kernel : Cert.quiescent_Kernel := by
  intro m ρ hp
  have h := (θ_run Cert.KernelIdeal.defs _ _).mono (fun _ h => And.intro (fun c => args_of (h.1 c).1) h.2)
    (run (F := Bits) m ρ fun d j => ids_lt _ _ _ _ _ _ _ _ _ _ (hp d) j)
  rw [defs_eq]
  exact h

/-- The reference ends with its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
end
-- ==== Proof.Equation.lean ====
module

public import proofs.«01_k».proof.Proof.RefValue
public import proofs.«01_k».proof.Proof.Frames

/-!
# The kernel's result is the reference's

From memories that agree on the ten arguments, the precondition true, both programs end with the same result.
-/

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_ids_in_range.Gen.facts

/-- The reference's result over arguments equal to the kernel's is the kernel's result. -/
theorem res_eq_result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) (hpre : PreOK m)
    (h0 : m' (c.tc.loc ReferenceIdeal.main_arg0) = m (at_ c KernelIdeal.main_arg0)) (h1 : m' (c.tc.loc ReferenceIdeal.main_arg1) = m (at_ c KernelIdeal.main_arg1))
    (h2 : m' (c.tc.loc ReferenceIdeal.main_arg2) = m (at_ c KernelIdeal.main_arg2)) (h3 : m' (c.tc.loc ReferenceIdeal.main_arg3) = m (at_ c KernelIdeal.main_arg3))
    (h4 : m' (c.tc.loc ReferenceIdeal.main_arg4) = m (at_ c KernelIdeal.main_arg4)) (h5 : m' (c.tc.loc ReferenceIdeal.main_arg5) = m (at_ c KernelIdeal.main_arg5))
    (h6 : m' (c.tc.loc ReferenceIdeal.main_arg6) = m (at_ c KernelIdeal.main_arg6)) (h7 : m' (c.tc.loc ReferenceIdeal.main_arg7) = m (at_ c KernelIdeal.main_arg7))
    (h8 : m' (c.tc.loc ReferenceIdeal.main_arg8) = m (at_ c KernelIdeal.main_arg8)) (h9 : m' (c.tc.loc ReferenceIdeal.main_arg9) = m (at_ c KernelIdeal.main_arg9)) :
    ReferenceIdeal.Value.res_main_v17 m' c = resultOf (F := Ideal) m c := by
  refine funext fun (j : ReferenceIdeal.S16384.Idx) => ?_
  obtain ⟨k, rfl⟩ : ∃ k : Fin 16384, j = ix1 k := ⟨j 0, eq_ix1 j⟩
  refine (res_at m' c (fun i => ?_) (fun i => ?_) k).trans ((?_ : _ = _).trans (resultOf_at m c k).symm)
  · rw [h0]; exact (hpre c i).1
  · rw [h1]; exact (hpre c i).2
  · rw [h0, h1, h2, h3, h4, h5, h6, h7, h8, h9]

/-- Over the extended reals the kernel computes what the reference computes. -/
theorem algebraic : Cert.algebraic_KernelIdeal_ReferenceIdeal := by
  intro m ρ m' ρ' hp hag
  have hpre : PreOK m := fun d j => ids_lt _ _ _ _ _ _ _ _ _ _ (hp d) j
  refine ⟨fun c => resultOf (F := Ideal) m c, ?_, ?_⟩
  · exact (θ_run Cert.KernelIdeal.defs _ _).mono (fun _ h c => ⟨(h.1 c).2, args_of (h.1 c).1⟩) (run (F := Ideal) m ρ hpre)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9⟩ := hag c
    exact res_eq_result m m' c hpre h0 h1 h2 h3 h4 h5 h6 h7 h8 h9

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_range
public import proofs.«01_k».proof.Proof.Gen.ReferenceIdeal.Run
public import proofs.«01_k».proof.Proof.Equation

@[expose] public section

noncomputable section

namespace Cert.Proof

/-- Every claim: the frames of the kernel at words and over the extended reals, those of the reference, that the two
    readings of the kernel are one text, and that the kernel's result is the reference's. -/
theorem claim : Cert.Claim :=
  ⟨Cert.Kernel.Gen.facts, Cert.KernelIdeal.Gen.facts, Cert.ReferenceIdeal.Gen.facts, Cert.Pre_ids_in_range.Gen.facts,
    frame_kernel, frame_kernelIdeal, frame_reference, fun m ρ _ => frame_reference m ρ trivial, trivial, algebraic⟩

end Cert.Proof

end
